-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S8192x512 : Shape := ⟨2, ![8192, 512]⟩
abbrev S8192 : Shape := ⟨1, ![8192]⟩
abbrev S512x1 : Shape := ⟨2, ![512, 1]⟩
abbrev S1 : Shape := ⟨1, ![1]⟩
abbrev S_ : Shape := ⟨0, ![]⟩
abbrev S512 : Shape := ⟨1, ![512]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S8192 : S_.BroadcastsInDim S8192 (![] : Fin 0 → Fin S8192.rank)
  reducesTo_S8192_S_d0 : S8192.ReducesTo [0] S_
  reducesTo_S8192x512_S512_d0 : S8192x512.ReducesTo [0] S512
  reducesTo_S512_S_d0 : S512.ReducesTo [0] S_

variable [Facts]

def fn_part2 {F : FTy → Type} [FloatOps F] (main_v30 : IVec S_ 1) (main_v31 : FVec F S512 .f32) (main_v32 : FVec F S512 .f32) : IVec S_ 1 :=
  let main_v33 : IVec S512 1 := cmpf .olt main_v31 main_v32
  let main_c_13 : IVec S_ 1 := constantI S_ 1 1#1
  let main_v34 : IVec S_ 1 := (fun x v => Host.reduce IntOp.andi x v reducesTo_S512_S_d0 h_S_) main_v33 main_c_13
  let main_v35 : IVec S_ 1 := andi main_v30 main_v34
  main_v35

def fn_part1 {F : FTy → Type} [FloatOps F] (main_arg0 : FVec F S8192x512 .f32) (main_arg1 : IVec S8192 32) (main_arg5 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg1 main_v24
  let main_c_9 : IVec S_ 32 := constantI S_ 32 8#32
  let main_v26 : IVec S8192 32 := broadcastInDim S8192 ![] bcast_S_S8192 main_c_9
  let main_v27 : IVec S8192 1 := cmpi .slt main_arg1 main_v26
  let main_v28 : IVec S8192 1 := andi main_v25 main_v27
  let main_c_10 : IVec S_ 1 := constantI S_ 1 1#1
  let main_v29 : IVec S_ 1 := (fun x v => Host.reduce IntOp.andi x v reducesTo_S8192_S_d0 h_S_) main_v28 main_c_10
  let main_v30 : IVec S_ 1 := andi main_v23 main_v29
  let main_cst_11 : FVec F S_ .f32 := constant S_ .f32 0x7F800000#32
  let main_v31 : FVec F S512 .f32 := (fun x v => Host.reduce FloatOps.minimumf x v reducesTo_S8192x512_S512_d0 h_S_) main_arg0 main_cst_11
  let main_cst_12 : FVec F S_ .f32 := constant S_ .f32 0xFF800000#32
  let main_v32 : FVec F S512 .f32 := (fun x v => Host.reduce FloatOps.maximumf x v reducesTo_S8192x512_S512_d0 h_S_) main_arg0 main_cst_12
  fn_part2 (F := F) main_v30 main_v31 main_v32

def fn {F : FTy → Type} [FloatOps F] (main_arg0 : FVec F S8192x512 .f32) (main_arg1 : IVec S8192 32) (main_arg2 : FVec F S512x1 .f32) (main_arg3 : FVec F S1 .f32) (main_arg4 : FVec F S512x1 .f32) (main_arg5 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x1 .f32 := Host.absf main_arg2
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S512x1 .f32 := Host.absf main_arg4
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg0 main_arg1 main_arg5 main_v13 main_v16
-- ==== Kernel.lean ====
abbrev S8192x512 : Shape := ⟨2, ![8192, 512]⟩
abbrev S8192 : Shape := ⟨1, ![8192]⟩
abbrev S512x1 : Shape := ⟨2, ![512, 1]⟩
abbrev S1 : Shape := ⟨1, ![1]⟩
abbrev S512x2 : Shape := ⟨2, ![512, 2]⟩
abbrev S2x512 : Shape := ⟨2, ![2, 512]⟩
abbrev S2 : Shape := ⟨1, ![2]⟩
abbrev S2x1 : Shape := ⟨2, ![2, 1]⟩
abbrev S1x8192 : Shape := ⟨2, ![1, 8192]⟩
abbrev S8x1024x512 : Shape := ⟨3, ![8, 1024, 512]⟩
abbrev S8 : Shape := ⟨1, ![8]⟩
abbrev S_ : Shape := ⟨0, ![]⟩
abbrev S1024x512 : Shape := ⟨2, ![1024, 512]⟩
abbrev S8x1 : Shape := ⟨2, ![8, 1]⟩
abbrev S8x512 : Shape := ⟨2, ![8, 512]⟩
abbrev S2x1024 : Shape := ⟨2, ![2, 1024]⟩
abbrev S1x1024 : Shape := ⟨2, ![1, 1024]⟩
abbrev S8x1024 : Shape := ⟨2, ![8, 1024]⟩
abbrev S1024 : Shape := ⟨1, ![1024]⟩
abbrev S1x8x1 : Shape := ⟨3, ![1, 8, 1]⟩
abbrev S1x1x1 : Shape := ⟨3, ![1, 1, 1]⟩
abbrev S512 : Shape := ⟨1, ![512]⟩
abbrev S1x512 : Shape := ⟨2, ![1, 512]⟩
abbrev S1x1024x512 : Shape := ⟨3, ![1, 1024, 512]⟩

abbrev nBuf : Space → Nat
  | .hbm => 12
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S512x1, .f32⟩
  | .hbm, ⟨3, _⟩ => ⟨S1, .f32⟩
  | .hbm, ⟨4, _⟩ => ⟨S512x1, .f32⟩
  | .hbm, ⟨5, _⟩ => ⟨S1, .f32⟩
  | .hbm, ⟨6, _⟩ => ⟨S512x2, .f32⟩
  | .hbm, ⟨7, _⟩ => ⟨S2x512, .f32⟩
  | .hbm, ⟨8, _⟩ => ⟨S2, .f32⟩
  | .hbm, ⟨9, _⟩ => ⟨S2x1, .f32⟩
  | .hbm, ⟨10, _⟩ => ⟨S1x8192, .i32⟩
  | .hbm, ⟨11, _⟩ => ⟨S8192x512, .f32⟩
  | .local _ .vmem, ⟨0, _⟩ => ⟨S1x8192, .i32⟩
  | .local _ .vmem, ⟨1, _⟩ => ⟨S2x512, .f32⟩
  | .local _ .vmem, ⟨2, _⟩ => ⟨S2x1, .f32⟩
  | .local _ .vmem, ⟨3, _⟩ => ⟨S8192x512, .f32⟩
  | .local _ .vmem, ⟨4, _⟩ => ⟨S8x1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x512 : Shape := ⟨2, ![8192, 512]⟩
abbrev S8192 : Shape := ⟨1, ![8192]⟩
abbrev S512x1 : Shape := ⟨2, ![512, 1]⟩
abbrev S1 : Shape := ⟨1, ![1]⟩
abbrev S8192x1 : Shape := ⟨2, ![8192, 1]⟩
abbrev S1x1 : Shape := ⟨2, ![1, 1]⟩
abbrev S_ : Shape := ⟨0, ![]⟩
abbrev S1x8192 : Shape := ⟨2, ![1, 8192]⟩
abbrev S8 : Shape := ⟨1, ![8]⟩
abbrev S8x1 : Shape := ⟨2, ![8, 1]⟩
abbrev S8x8192 : Shape := ⟨2, ![8, 8192]⟩
abbrev S512 : Shape := ⟨1, ![512]⟩
abbrev S1x512 : Shape := ⟨2, ![1, 512]⟩

abbrev nBuf : Space → Nat
  | .hbm => 91
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S512x1, .f32⟩
  | .hbm, ⟨3, _⟩ => ⟨S1, .f32⟩
  | .hbm, ⟨4, _⟩ => ⟨S512x1, .f32⟩
  | .hbm, ⟨5, _⟩ => ⟨S1, .f32⟩
  | .hbm, ⟨6, _⟩ => ⟨S8192x1, .f32⟩
  | .hbm, ⟨7, _⟩ => ⟨S1x1, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S1x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192, .f32⟩
  | .hbm, ⟨23, _⟩ => ⟨S1x8192, .i32⟩
  | .hbm, ⟨24, _⟩ => ⟨S8, .i32⟩
  | .hbm, ⟨25, _⟩ => ⟨S8x1, .i32⟩
  | .hbm, ⟨26, _⟩ => ⟨S8x8192, .i32⟩
  | .hbm, ⟨27, _⟩ => ⟨S8x8192, .i32⟩
  | .hbm, ⟨28, _⟩ => ⟨S8x8192, .i1⟩
  | .hbm, ⟨29, _⟩ => ⟨S1x8192, .f32⟩
  | .hbm, ⟨30, _⟩ => ⟨S_, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192, .f32⟩
  | .hbm, ⟨35, _⟩ => ⟨S_, .f32⟩
  | .hbm, ⟨36, _⟩ => ⟨S8, .f32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S_, .i32⟩
  | .hbm, ⟨41, _⟩ => ⟨S8192, .i32⟩
  | .hbm, ⟨42, _⟩ => ⟨S8192, .i32⟩
  | .hbm, ⟨43, _⟩ => ⟨S8192, .i32⟩
  | .hbm, ⟨44, _⟩ => ⟨S8192x1, .i32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S_, .f32⟩
  | .hbm, ⟨49, _⟩ => ⟨S8, .f32⟩
  | .hbm, ⟨50, _⟩ => ⟨S8192x1, .i32⟩
  | .hbm, ⟨51, _⟩ => ⟨S8, .f32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S8192, .f32⟩
  | .hbm, ⟨61, _⟩ => ⟨S8192, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x512, .f32⟩
  | .hbm, ⟨70, _⟩ => ⟨S8192x512, .f32⟩
  | .hbm, ⟨71, _⟩ => ⟨S_, .f32⟩
  | .hbm, ⟨72, _⟩ => ⟨S512, .f32⟩
  | .hbm, ⟨73, _⟩ => ⟨S1x512, .f32⟩
  | .hbm, ⟨74, _⟩ => ⟨S_, .f32⟩
  | .hbm, ⟨75, _⟩ => ⟨S_, .f32⟩
  | .hbm, ⟨76, _⟩ => ⟨S1x512, .f32⟩
  | .hbm, ⟨77, _⟩ => ⟨S1x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S_, .f32⟩
  | .hbm, ⟨84, _⟩ => ⟨S512, .f32⟩
  | .hbm, ⟨85, _⟩ => ⟨S1x512, .f32⟩
  | .hbm, ⟨86, _⟩ => ⟨S1x512, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Proof.K.RunIdeal.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

abbrev featsM : Memref sig .tc .hbm S8192x512 .f32 := Memref.whole main_arg0
abbrev outM : Memref sig .tc .hbm S8192x512 .f32 := Memref.whole main_v5
abbrev fvM : Memref sig .tc .vmem S8192x512 .f32 := Memref.whole cc0_scratch0
abbrev obM : Memref sig .tc .vmem S8x1024x512 .f32 := Memref.whole cc0_scratch1
abbrev BufAt (c : Dev nD) {sp : Space} {S : Shape} {e : EltTy} (M : Memref sig .tc sp S e) : Type := Buf (Elt F) (M.view.loc (c : Thread nD τ))
abbrev holds (c : Dev nD) {sp : Space} {S : Shape} {e : EltTy} (M : Memref sig .tc sp S e) (f : BufAt (F := F) c M) : sProp 𝕄 :=
  M.view.loc (c : Thread nD τ) ↦{fullShare} f

abbrev part (c : Dev nD) {sp : Space} {S : Shape} {e : EltTy} (M : Memref sig .tc sp S e) (f : BufAt (F := F) c M) : sProp 𝕄 :=
  M.view.loc (c : Thread nD τ) ↦[M.view.set]{fullShare} f

/-- The sixteen counters at zero. -/
abbrev zeros (c : Dev nD) : sProp 𝕄 :=
  iprop(semVal ((c : Thread nD τ), SemLoc.dma 3) 0 ∗ semVal ((c : Thread nD τ), SemLoc.dma 4) 0
    ∗ semVal ((c : Thread nD τ), SemLoc.dma 5) 0 ∗ semVal ((c : Thread nD τ), SemLoc.dma 6) 0
    ∗ semVal ((c : Thread nD τ), SemLoc.dma 7) 0 ∗ semVal ((c : Thread nD τ), SemLoc.dma 8) 0
    ∗ semVal ((c : Thread nD τ), SemLoc.dma 9) 0 ∗ semVal ((c : Thread nD τ), SemLoc.dma 10) 0
    ∗ semVal ((c : Thread nD τ), SemLoc.dma 11) 0 ∗ semVal ((c : Thread nD τ), SemLoc.dma 12) 0
    ∗ semVal ((c : Thread nD τ), SemLoc.dma 13) 0 ∗ semVal ((c : Thread nD τ), SemLoc.dma 14) 0
    ∗ semVal ((c : Thread nD τ), SemLoc.dma 15) 0 ∗ semVal ((c : Thread nD τ), SemLoc.dma 16) 0
    ∗ semVal ((c : Thread nD τ), SemLoc.dma 17) 0 ∗ semVal ((c : Thread nD τ), SemLoc.dma 18) 0)

set_option sl_exec.dmaWindow true in
/-- The whole kernel body run once on raw buffer contents: it gives every buffer and counter back, and the
result array holds a value computed from the contents alone. -/
noncomputable def kernelRun (c : Dev nD) (sg : Memref sig .tc .vmem S1x8192 .i32) (hsg : sg.IsWhole)
    (wt : Memref sig .tc .vmem S2x512 .f32) (hwt : wt.IsWhole) (bs : Memref sig .tc .vmem S2x1 .f32) (hbs : bs.IsWhole)
    (f0 : BufAt (F := F) c featsM) (fo : BufAt (F := F) c outM)
    (fs : BufAt (F := F) c sg) (fw : BufAt (F := F) c wt) (fb : BufAt (F := F) c bs)
    (fv : BufAt (F := F) c fvM) (fz : BufAt (F := F) c obM) :
    { g : BufAt (F := F) c outM //
      ∀ (W : Waits sig Unit) (K : PUnit → sProp 𝕄),
        iprop(part c sg fs ∗ part c wt fw ∗ part c bs fb
            ∗ holds c fvM fv ∗ holds c obM fz ∗ zeros c ∗ holds c featsM f0 ∗ holds c outM fo
            ∗ owes (c : Thread nD τ) 0 W
            ∗ (iprop(part c sg fs ∗ part c wt fw ∗ part c bs fb
                ∗ (∃ f, holds c fvM f) ∗ (∃ f, holds c obM f) ∗ zeros c ∗ holds c featsM f0 ∗ holds c outM g
                ∗ (∃ W', owes (c : Thread nD τ) 0 W')) -∗ K ⟨⟩))
          ⊢ wp frame (wpE (defs₀ (F := F)) Variants.none c none) Set.univ
              (cc0__ain_body featsM (Memref.isWhole_whole _) sg hsg wt hwt bs hbs outM (Memref.isWhole_whole _)
                fvM (Memref.isWhole_whole _) obM (Memref.isWhole_whole _) cc0_scratch2 cc0_scratch3) K } := by
  refine ⟨?_, fun W K => ?run⟩
  case run =>
    simp only [cc0__ain_body_eq_skeleton]; unfold cc0__ain_body_skel
    iintro ⟨Hsg, Hwt, Hbs, Hfv, Hob,
      ⟨Hq0, Hq1, Hq2, Hq3, Hq4, Hq5, Hq6, Hq7, Hp0, Hp1, Hp2, Hp3, Hp4, Hp5, Hp6, Hp7⟩, Hf, Ho, HW, Hk⟩
    sl_exec
    sl_step
    iapply Hk
    isplitl [Hsg]
    · iexact Hsg
    isplitl [Hwt]
    · iexact Hwt
    isplitl [Hbs]
    · iexact Hbs
    isplitl [Hfv]
    · iexists _; iexact Hfv
    isplitl [Hob]
    · iexists _; iexact Hob
    isplitl [Hq0 Hq1 Hq2 Hq3 Hq4 Hq5 Hq6 Hq7 Hp0 Hp1 Hp2 Hp3 Hp4 Hp5 Hp6 Hp7]
    · unfold zeros
      isplitl [Hq0]
      · iexact Hq0
      isplitl [Hq1]
      · iexact Hq1
      isplitl [Hq2]
      · iexact Hq2
      isplitl [Hq3]
      · iexact Hq3
      isplitl [Hq4]
      · iexact Hq4
      isplitl [Hq5]
      · iexact Hq5
      isplitl [Hq6]
      · iexact Hq6
      isplitl [Hq7]
      · iexact Hq7
      isplitl [Hp0]
      · iexact Hp0
      isplitl [Hp1]
      · iexact Hp1
      isplitl [Hp2]
      · iexact Hp2
      isplitl [Hp3]
      · iexact Hp3
      isplitl [Hp4]
      · iexact Hp4
      isplitl [Hp5]
      · iexact Hp5
      isplitl [Hp6]
      · iexact Hp6
      iexact Hp7
    isplitl [Hf]
    · iexact Hf
    isplitl [Ho]
    · iexact Ho
    · iexists _; iexact HW

end Cert.KernelIdeal.Hand

end
-- ==== Proof.K.Block.lean ====
module

public import proofs.«01_k».proof.Proof.Gen.KernelIdeal.Skeleton
public import proofs.«01_k».proof.Proof.K.RunIdeal
public import Idealize.ShloMosaic.Lib.Pointwise

@[expose] public section

set_option maxRecDepth 16384

noncomputable section

/-! # What the kernel's body computes, chunk by chunk

The body walks the 8192 rows in eight chunks of 1024.  Per group it carries a running maximum, two running
sums and two rows of running sums; one chunk changes them by one and the same step.  After the last chunk it
forms a shift and a scale per column, and writes every row by them. -/

namespace Cert.KernelIdeal.Hand

open Cert.KernelIdeal Cert.KernelIdeal.Gen
open Idealize.ShloMosaic Idealize.SL.Sem

variable {F : FTy → Type} [FloatOps F]

/-- What the body carries from chunk to chunk, per group: the running maximum of the scores, the sum of the
exponentials, the sum of the exponentials by the gate, and per column that sum by the entry and by its square. -/
structure Carry (F : FTy → Type) where
  top : FVec F S8x1 .f32
  den : FVec F S8x1 .f32
  wsum : FVec F S8x1 .f32
  lin : FVec F S8x512 .f32
  quad : FVec F S8x512 .f32

/-- What is carried before the first chunk. -/
def Carry.start : Carry F := ⟨k0_pay3, k0_pay4, k0_pay5, k0_pay6, k0_pay7⟩

/-- One chunk: rows `x`, group numbers `s`, under weights `w` and biases `b`. -/
def Carry.step (w : FVec F S2x512 .bf16) (b : FVec F S2x1 .f32) (x : Vec F S1024x512 .f32) (s : Vec F S1x1024 .i32)
    (t : Carry F) : Carry F :=
  ⟨k0_pay12 t.top (k0_pay9 w b x) s, k0_pay16 t.top t.den (k0_pay9 w b x) s, k0_pay17 t.top t.wsum (k0_pay9 w b x) s,
    k0_pay19 t.top t.lin (k0_pay8 x) (k0_pay9 w b x) s, k0_pay20 t.top t.quad (k0_pay8 x) (k0_pay9 w b x) s⟩

/-- What is carried after the first `n` chunks. -/
def Carry.upto (w : FVec F S2x512 .bf16) (b : FVec F S2x1 .f32) (x : ℕ → Vec F S1024x512 .f32) (s : ℕ → Vec F S1x1024 .i32) :
    ℕ → Carry F
  | 0 => Carry.start
  | n + 1 => (Carry.upto w b x s n).step w b (x n) (s n)

/-- The reciprocal of a group's sum of exponentials, nought for an empty group. -/
def Carry.inv (t : Carry F) : FVec F S8x1 .f32 :=
  select (cmpf .ogt t.den (broadcast S8x1 (Scalar.ofBits .f32 0x00000000#32)))
    (divf (broadcast S8x1 (Scalar.ofBits .f32 0x3F800000#32)) t.den) (broadcast S8x1 (Scalar.ofBits .f32 0x00000000#32))

/-- The sum of all weights. -/
def Carry.total (t : Carry F) : FVec F S1 .f32 :=
  multiReduction .add [1, 2] S1 (shapeCast S1x8x1 (mulf t.wsum t.inv) shapeCasts_S8x1_S1x8x1) 0x00000000#32 reduces_S1x8x1_S1 (.inl rfl) rfl

/-- The scale of each column. -/
def Carry.scale (t : Carry F) : FVec F S1x512 .f32 := k0_pay122 t.lin t.quad t.inv t.total

/-- The shift of each column. -/
def Carry.shift (t : Carry F) : FVec F S1x512 .f32 := k0_pay123 t.lin t.quad t.inv t.total

/-- A chunk of the result. -/
def Carry.block (t : Carry F) (x : Vec F S1024x512 .f32) : FVec F S1x1024x512 .f32 :=
  k0_pay126 t.scale t.shift x

variable (c : Dev nD) (sg : Memref sig .tc .vmem S1x8192 .i32) (wt : Memref sig .tc .vmem S2x512 .f32) (bs : Memref sig .tc .vmem S2x1 .f32)
  (f0 : BufAt (F := F) c featsM) (fs : BufAt (F := F) c sg) (fw : BufAt (F := F) c wt) (fb : BufAt (F := F) c bs)

/-- The chunks of rows as the body loads them. -/
def loadedX : ℕ → Vec F S1024x512 .f32
  | 0 => kernelRun.sl.v46 c f0
  | 1 => kernelRun.sl.v104 c f0
  | 2 => kernelRun.sl.v162 c f0
  | 3 => kernelRun.sl.v220 c f0
  | 4 => kernelRun.sl.v278 c f0
  | 5 => kernelRun.sl.v336 c f0
  | 6 => kernelRun.sl.v394 c f0
  | _ => kernelRun.sl.v452 c f0

/-- The chunks of group numbers as the body loads them. -/
def loadedS : ℕ → Vec F S1x1024 .i32
  | 0 => View.readAt (Elt F) sg.view (Rect.unit (s := S1x8192) ![0, 0] S1x1024.size inb_S1x8192_S1x1024_0_0).toLoadRect fs
  | 1 => View.readAt (Elt F) sg.view (Rect.unit (s := S1x8192) ![0, 1024] S1x1024.size inb_S1x8192_S1x1024_0_1024).toLoadRect fs
  | 2 => View.readAt (Elt F) sg.view (Rect.unit (s := S1x8192) ![0, 2048] S1x1024.size inb_S1x8192_S1x1024_0_2048).toLoadRect fs
  | 3 => View.readAt (Elt F) sg.view (Rect.unit (s := S1x8192) ![0, 3072] S1x1024.size inb_S1x8192_S1x1024_0_3072).toLoadRect fs
  | 4 => View.readAt (Elt F) sg.view (Rect.unit (s := S1x8192) ![0, 4096] S1x1024.size inb_S1x8192_S1x1024_0_4096).toLoadRect fs
  | 5 => View.readAt (Elt F) sg.view (Rect.unit (s := S1x8192) ![0, 5120] S1x1024.size inb_S1x8192_S1x1024_0_5120).toLoadRect fs
  | 6 => View.readAt (Elt F) sg.view (Rect.unit (s := S1x8192) ![0, 6144] S1x1024.size inb_S1x8192_S1x1024_0_6144).toLoadRect fs
  | _ => View.readAt (Elt F) sg.view (Rect.unit (s := S1x8192) ![0, 7168] S1x1024.size inb_S1x8192_S1x1024_0_7168).toLoadRect fs

/-- What the run carries after `n` chunks. -/
def ran (n : ℕ) : Carry F :=
  Carry.upto (kernelRun.sl.r c wt fw) (kernelRun.sl.r_1 c bs fb) (loadedX c f0) (loadedS c sg fs) n

/-- One chunk more is one step more. -/
theorem ran_succ (n : ℕ) : ran c sg wt bs f0 fs fw fb (n + 1)
    = (ran c sg wt bs f0 fs fw fb n).step (kernelRun.sl.r c wt fw) (kernelRun.sl.r_1 c bs fb) (loadedX c f0 n) (loadedS c sg fs n) := rfl

/-! The body is printed as one straight line, each chunk cut into named values at other places.  After each
chunk the five values carried are the step's. -/

/-- The printed values after one chunk. -/
theorem ran1 : ran c sg wt bs f0 fs fw fb 1
    = ⟨kernelRun.sl.r_5 c sg wt bs f0 fs fw fb, kernelRun.sl.r_6 c sg wt bs f0 fs fw fb, kernelRun.sl.r_7 c sg wt bs f0 fs fw fb,
        kernelRun.sl.r_8 c sg wt bs f0 fs fw fb, kernelRun.sl.r_9 c sg wt bs f0 fs fw fb⟩ := rfl

/-- The printed values after two chunks. -/
theorem ran2 : ran c sg wt bs f0 fs fw fb 2
    = ⟨kernelRun.sl.r_11 c sg wt bs f0 fs fw fb, kernelRun.sl.r_13 c sg wt bs f0 fs fw fb, kernelRun.sl.r_14 c sg wt bs f0 fs fw fb,
        kernelRun.sl.r_16 c sg wt bs f0 fs fw fb, kernelRun.sl.r_17 c sg wt bs f0 fs fw fb⟩ := by
  rw [ran_succ, ran1]; rfl

/-- The printed values after three chunks. -/
theorem ran3 : ran c sg wt bs f0 fs fw fb 3
    = ⟨kernelRun.sl.r_20 c sg wt bs f0 fs fw fb, kernelRun.sl.r_24 c sg wt bs f0 fs fw fb, kernelRun.sl.r_25 c sg wt bs f0 fs fw fb,
        kernelRun.sl.r_26 c sg wt bs f0 fs fw fb, kernelRun.sl.r_27 c sg wt bs f0 fs fw fb⟩ := by
  rw [ran_succ, ran2]; rfl

/-- The printed values after four chunks. -/
theorem ran4 : ran c sg wt bs f0 fs fw fb 4
    = ⟨kernelRun.sl.r_32 c sg wt bs f0 fs fw fb, kernelRun.sl.r_33 c sg wt bs f0 fs fw fb, kernelRun.sl.r_34 c sg wt bs f0 fs fw fb,
        kernelRun.sl.r_35 c sg wt bs f0 fs fw fb, kernelRun.sl.r_36 c sg wt bs f0 fs fw fb⟩ := by
  rw [ran_succ, ran3]; rfl

/-- The printed values after five chunks. -/
theorem ran5 : ran c sg wt bs f0 fs fw fb 5
    = ⟨kernelRun.sl.r_40 c sg wt bs f0 fs fw fb, kernelRun.sl.r_41 c sg wt bs f0 fs fw fb, kernelRun.sl.r_42 c sg wt bs f0 fs fw fb,
        kernelRun.sl.r_43 c sg wt bs f0 fs fw fb, kernelRun.sl.r_44 c sg wt bs f0 fs fw fb⟩ := by
  rw [ran_succ, ran4]; rfl

/-- The printed values after six chunks. -/
theorem ran6 : ran c sg wt bs f0 fs fw fb 6
    = ⟨kernelRun.sl.r_46 c sg wt bs f0 fs fw fb, kernelRun.sl.r_49 c sg wt bs f0 fs fw fb, kernelRun.sl.r_51 c sg wt bs f0 fs fw fb,
        kernelRun.sl.r_52 c sg wt bs f0 fs fw fb, kernelRun.sl.r_53 c sg wt bs f0 fs fw fb⟩ := by
  rw [ran_succ, ran5]; rfl

/-- The printed values after seven chunks. -/
theorem ran7 : ran c sg wt bs f0 fs fw fb 7
    = ⟨kernelRun.sl.r_57 c sg wt bs f0 fs fw fb, kernelRun.sl.r_61 c sg wt bs f0 fs fw fb, kernelRun.sl.r_62 c sg wt bs f0 fs fw fb,
        kernelRun.sl.r_63 c sg wt bs f0 fs fw fb, kernelRun.sl.r_64 c sg wt bs f0 fs fw fb⟩ := by
  rw [ran_succ, ran6]; rfl

/-- The printed factor and shift are those of the state after all eight chunks. -/
theorem ran8 : (ran c sg wt bs f0 fs fw fb 8).scale = kernelRun.sl.r_74 c sg wt bs f0 fs fw fb ∧ (ran c sg wt bs f0 fs fw fb 8).shift = kernelRun.sl.r_75 c sg wt bs f0 fs fw fb := by
  rw [ran_succ, ran7]; exact ⟨rfl, rfl⟩

end Cert.KernelIdeal.Hand

end
-- ==== Proof.K.Out.lean ====
module

public import proofs.«01_k».proof.Proof.K.Block
public import Idealize.ShloMosaic.Lib.Ring
public import Idealize.ShloMosaic.Lib.VecWindow

@[expose] public section

set_option maxRecDepth 16384

noncomputable section

/-! # What the result array holds after the body

The eight transfers out fill the array with the eight chunks of the result; each chunk is computed from the rows
the eight transfers in have brought. -/

namespace Cert.KernelIdeal.Hand

open Cert.KernelIdeal Cert.KernelIdeal.Gen
open Idealize.ShloMosaic Idealize.SL.Sem

variable {F : FTy → Type} [FloatOps F]

/-- Row `k` of chunk `n`, as a row of the whole. -/
def rowAt (n : ℕ) (k : Fin 1024) : Fin 8192 := ⟨(n * 1024 + k.val) % 8192, Nat.mod_lt _ (by decide)⟩

/-- The rows of chunk `n`. -/
def chunkX (X : Vec F S8192x512 .f32) (n : ℕ) : Vec F S1024x512 .f32 := fun y => X (ix2 (rowAt n (y 0)) (y 1))

/-- The group numbers of chunk `n`. -/
def chunkS (s : Vec F S1x8192 .i32) (n : ℕ) : Vec F S1x1024 .i32 := fun y => s (ix2 (y 0) (rowAt n (y 1)))

/-- What the body carries after the last chunk, from the arrays. -/
def finalCarry (X : Vec F S8192x512 .f32) (s : Vec F S1x8192 .i32) (w : Vec F S2x512 .f32) (b : Vec F S2x1 .f32) : Carry F :=
  Carry.upto (k0_pay1 w) (k0_pay2 b) (chunkX X) (chunkS s) 8

/-- The result array, from the arrays. -/
def resultOf (X : Vec F S8192x512 .f32) (s : Vec F S1x8192 .i32) (w : Vec F S2x512 .f32) (b : Vec F S2x1 .f32) : Vec F S8192x512 .f32 :=
  fun y => (finalCarry X s w b).block (chunkX X ((y 0).val / 1024)) (ix3 0 ⟨(y 0).val % 1024, Nat.mod_lt _ (by decide)⟩ (y 1))

variable (c : Dev nD) (sg : Memref sig .tc .vmem S1x8192 .i32) (wt : Memref sig .tc .vmem S2x512 .f32) (bs : Memref sig .tc .vmem S2x1 .f32)
  (f0 : BufAt (F := F) c featsM) (fs : BufAt (F := F) c sg) (fw : BufAt (F := F) c wt) (fb : BufAt (F := F) c bs)
  (fz : BufAt (F := F) c obM)

/-- The eight transfers in, newest first. -/
def landings : List (View.Piece (Elt F) S8192x512 .f32) :=
  [⟨Rect.unit ![7168, 0] S1024x512.size inb_S8192x512_S1024x512_7168_0, kernelRun.sl.dma2_7 c f0⟩,
    ⟨Rect.unit ![6144, 0] S1024x512.size inb_S8192x512_S1024x512_6144_0, kernelRun.sl.dma2_6 c f0⟩,
    ⟨Rect.unit ![5120, 0] S1024x512.size inb_S8192x512_S1024x512_5120_0, kernelRun.sl.dma2_5 c f0⟩,
    ⟨Rect.unit ![4096, 0] S1024x512.size inb_S8192x512_S1024x512_4096_0, kernelRun.sl.dma2_4 c f0⟩,
    ⟨Rect.unit ![3072, 0] S1024x512.size inb_S8192x512_S1024x512_3072_0, kernelRun.sl.dma2_3 c f0⟩,
    ⟨Rect.unit ![2048, 0] S1024x512.size inb_S8192x512_S1024x512_2048_0, kernelRun.sl.dma2_2 c f0⟩,
    ⟨Rect.unit ![1024, 0] S1024x512.size inb_S8192x512_S1024x512_1024_0, kernelRun.sl.dma2_1 c f0⟩,
    ⟨Rect.unit ![0, 0] S1024x512.size inb_S8192x512_S1024x512_0_0, kernelRun.sl.dma2 c f0⟩]

/-- Each piece that lands is the array's own rows there. -/
theorem landings_own : ∀ p ∈ landings c f0, ∀ x, p.2 x = featsM.view.read (Elt F) f0 (p.1.emb x) := by
  unfold landings
  simp only [List.forall_mem_cons, List.not_mem_nil, false_imp_iff, implies_true, and_true]
  exact ⟨fun _ => rfl, fun _ => rfl, fun _ => rfl, fun _ => rfl, fun _ => rfl, fun _ => rfl, fun _ => rfl, fun _ => rfl⟩

/-- Eight pieces of 1024 rows fill an array of 8192, whatever they hold. -/
theorem pieces_cover (p7 p6 p5 p4 p3 p2 p1 p0 : S1024x512.Idx → Elt F .f32) (y : S8192x512.Idx) :
    ∃ p ∈ ([⟨Rect.unit (s := S8192x512) ![7168, 0] S1024x512.size inb_S8192x512_S1024x512_7168_0, p7⟩,
      ⟨Rect.unit (s := S8192x512) ![6144, 0] S1024x512.size inb_S8192x512_S1024x512_6144_0, p6⟩,
      ⟨Rect.unit (s := S8192x512) ![5120, 0] S1024x512.size inb_S8192x512_S1024x512_5120_0, p5⟩,
      ⟨Rect.unit (s := S8192x512) ![4096, 0] S1024x512.size inb_S8192x512_S1024x512_4096_0, p4⟩,
      ⟨Rect.unit (s := S8192x512) ![3072, 0] S1024x512.size inb_S8192x512_S1024x512_3072_0, p3⟩,
      ⟨Rect.unit (s := S8192x512) ![2048, 0] S1024x512.size inb_S8192x512_S1024x512_2048_0, p2⟩,
      ⟨Rect.unit (s := S8192x512) ![1024, 0] S1024x512.size inb_S8192x512_S1024x512_1024_0, p1⟩,
      ⟨Rect.unit (s := S8192x512) ![0, 0] S1024x512.size inb_S8192x512_S1024x512_0_0, p0⟩] : List (View.Piece (Elt F) S8192x512 .f32)),
      y ∈ p.1.set :=
  View.cover_of_tiledL (s := S8192x512) _ S1024x512.size (by sl_kernel_rfl) y

/-- The rows that land fill the buffer. -/
theorem landings_cover (y : S8192x512.Idx) : ∃ p ∈ landings c f0, y ∈ p.1.set :=
  pieces_cover _ _ _ _ _ _ _ _ y

/-- So the buffer reads as the array, whatever it held. -/
theorem landings_read (f : fvM.view.ty.Contents (Elt F)) (y : S8192x512.Idx) :
    fvM.view.read (Elt F) (fvM.view.writes (Elt F) f (landings c f0)) y = featsM.view.read (Elt F) f0 y :=
  View.read_writes_apply_of_pieces fvM.view f (featsM.view.read (Elt F) f0) (landings c f0) (landings_own c f0) y (landings_cover c f0 y)

/-- Indices of a matrix with the same coordinates are one. -/
theorem idx2_ext {d : Fin 2 → ℕ} (i j : (⟨2, d⟩ : Shape).Idx) (h0 : (i 0).val = (j 0).val) (h1 : (i 1).val = (j 1).val) : i = j :=
  funext (Fin.forall_fin_two.mpr ⟨Fin.ext h0, Fin.ext h1⟩)

/-- So a load of a box of whole rows reads the array's rows. -/
theorem landed (o : ℕ) (inb : ∀ a, (![o, 0] : Fin 2 → ℕ) a + S1024x512.size a ≤ S8192x512.size a) (n : ℕ) (ho : o = n * 1024) :
    fvM.view.readCov (landings c f0) (Rect.unit (s := S8192x512) ![o, 0] S1024x512.size inb).toLoadRect
      = chunkX (featsM.view.read (Elt F) f0) n := by
  funext y
  have h : o + 1024 ≤ 8192 := inb 0
  have hk : (y 0).val < 1024 := (y 0).isLt
  unfold View.readCov
  rw [View.readAt_apply, landings_read]
  refine congrArg (featsM.view.read (Elt F) f0) (idx2_ext _ _ ?_ ?_)
  · show o + 1 * (y 0).val = (n * 1024 + (y 0).val) % 8192
    omega
  · show 0 + 1 * (y 1).val = (y 1).val
    omega

/-- The chunks loaded are the array's chunks. -/
theorem loadedX_eq (n : ℕ) (hn : n < 8) : loadedX c f0 n = chunkX (featsM.view.read (Elt F) f0) n := by
  interval_cases n <;> exact landed c f0 _ _ _ rfl

/-- A load of a box of group numbers reads the array's. -/
theorem loaded_ids (o : ℕ) (inb : ∀ a, (![0, o] : Fin 2 → ℕ) a + S1x1024.size a ≤ S1x8192.size a) (n : ℕ) (ho : o = n * 1024) :
    View.readAt (Elt F) sg.view (Rect.unit (s := S1x8192) ![0, o] S1x1024.size inb).toLoadRect fs
      = chunkS (sg.view.read (Elt F) fs) n := by
  funext y
  have h : o + 1024 ≤ 8192 := inb 1
  have hk : (y 1).val < 1024 := (y 1).isLt
  refine congrArg (sg.view.read (Elt F) fs) (idx2_ext _ _ ?_ ?_)
  · show 0 + 1 * (y 0).val = (y 0).val
    omega
  · show o + 1 * (y 1).val = (n * 1024 + (y 1).val) % 8192
    omega

/-- The chunks of group numbers loaded are the array's chunks. -/
theorem loadedS_eq (n : ℕ) (hn : n < 8) : loadedS c sg fs n = chunkS (sg.view.read (Elt F) fs) n := by
  interval_cases n <;> exact loaded_ids c sg fs _ _ _ rfl

/-- Steps that see the same chunks carry the same. -/
theorem upto_congr (w : FVec F S2x512 .bf16) (b : FVec F S2x1 .f32) (x x' : ℕ → Vec F S1024x512 .f32) (s s' : ℕ → Vec F S1x1024 .i32) :
    ∀ n : ℕ, (∀ k < n, x k = x' k) → (∀ k < n, s k = s' k) → Carry.upto w b x s n = Carry.upto w b x' s' n
  | 0, _, _ => rfl
  | n + 1, hx, hs => by
    rw [Carry.upto, Carry.upto, upto_congr w b x x' s s' n (fun k hk => hx k (by omega)) (fun k hk => hs k (by omega)),
      hx n (by omega), hs n (by omega)]

/-- What the run carries at the end is what the arrays give. -/
theorem ran_eq : ran c sg wt bs f0 fs fw fb 8
    = finalCarry (featsM.view.read (Elt F) f0) (sg.view.read (Elt F) fs) (wt.view.read (Elt F) fw) (bs.view.read (Elt F) fb) := by
  unfold ran finalCarry
  rw [upto_congr _ _ _ _ _ _ 8 (loadedX_eq c f0) (loadedS_eq c sg fs)]
  unfold kernelRun.sl.r kernelRun.sl.r_1
  rw [View.readAt_full, View.readAt_full]

/-- A plane of one chunk, its leading axis dropped. -/
theorem plane_cast (w : FVec F S1x1024x512 .f32) (h : S1x1024x512.ShapeCasts S1024x512) (x : S1024x512.Idx) :
    shapeCast S1024x512 w h x = w (ix3 0 (x 0) (x 1)) := by
  pointwise

/-- A chunk stored into the outgoing buffer, read back through its plane. -/
theorem stored (o : Fin 3 → ℕ) (inb : ∀ a, o a + S1x1024x512.size a ≤ S8x1024x512.size a) (w : FVec F S1x1024x512 .f32)
    (L : List (View.Piece (Elt F) S8x1024x512 .f32)) (hr) (hq) (x : S1024x512.Idx) :
    ((obM.slice (Rect.unit (s := S8x1024x512) o S1x1024x512.size inb) hr).squeeze S1024x512 hq).view.read (Elt F)
      (obM.view.writes (Elt F) fz ((⟨Rect.unit (s := S8x1024x512) o S1x1024x512.size inb, w⟩ : View.Piece (Elt F) S8x1024x512 .f32) :: L)) x
      = w (ix3 0 (x 0) (x 1)) := by
  rw [Memref.read_squeeze_slice (hc := shapeCasts_S1x1024x512_S1024x512)]
  rw [show obM.view.readAt (Elt F) (Rect.unit (s := S8x1024x512) o S1x1024x512.size inb).toLoadRect
      (obM.view.writes (Elt F) fz ((⟨Rect.unit (s := S8x1024x512) o S1x1024x512.size inb, w⟩ : View.Piece (Elt F) S8x1024x512 .f32) :: L)) = w from
    funext fun j => View.read_writes_cons_emb obM.view fz (Rect.unit (s := S8x1024x512) o S1x1024x512.size inb) w L j]
  exact plane_cast w _ x

/-- The eight transfers out, newest first. -/
def leavings : List (View.Piece (Elt F) S8192x512 .f32) :=
  [⟨Rect.unit ![7168, 0] S1024x512.size inb_S8192x512_S1024x512_7168_0, kernelRun.sl.dma42 c sg wt bs f0 fs fw fb fz⟩,
    ⟨Rect.unit ![6144, 0] S1024x512.size inb_S8192x512_S1024x512_6144_0, kernelRun.sl.dma39 c sg wt bs f0 fs fw fb fz⟩,
    ⟨Rect.unit ![5120, 0] S1024x512.size inb_S8192x512_S1024x512_5120_0, kernelRun.sl.dma36 c sg wt bs f0 fs fw fb fz⟩,
    ⟨Rect.unit ![4096, 0] S1024x512.size inb_S8192x512_S1024x512_4096_0, kernelRun.sl.dma33 c sg wt bs f0 fs fw fb fz⟩,
    ⟨Rect.unit ![3072, 0] S1024x512.size inb_S8192x512_S1024x512_3072_0, kernelRun.sl.dma30 c sg wt bs f0 fs fw fb fz⟩,
    ⟨Rect.unit ![2048, 0] S1024x512.size inb_S8192x512_S1024x512_2048_0, kernelRun.sl.dma27 c sg wt bs f0 fs fw fb fz⟩,
    ⟨Rect.unit ![1024, 0] S1024x512.size inb_S8192x512_S1024x512_1024_0, kernelRun.sl.dma24 c sg wt bs f0 fs fw fb fz⟩,
    ⟨Rect.unit ![0, 0] S1024x512.size inb_S8192x512_S1024x512_0_0, kernelRun.sl.dma21 c sg wt bs f0 fs fw fb fz⟩]

/-- A piece that holds chunk `n` of the result agrees with the result there. -/
theorem leaving_own (X : Vec F S8192x512 .f32) (s : Vec F S1x8192 .i32) (w : Vec F S2x512 .f32) (b : Vec F S2x1 .f32)
    (o : ℕ) (inb : ∀ a, (![o, 0] : Fin 2 → ℕ) a + S1024x512.size a ≤ S8192x512.size a) (n : ℕ) (ho : o = n * 1024)
    (p : (Rect.unit (s := S8192x512) ![o, 0] S1024x512.size inb).shape.Idx → Elt F .f32)
    (hp : ∀ x, p x = (finalCarry X s w b).block (chunkX X n) (ix3 0 (x 0) (x 1))) :
    ∀ x, p x = resultOf X s w b ((Rect.unit (s := S8192x512) ![o, 0] S1024x512.size inb).emb x) := by
  intro x
  have h : o + 1024 ≤ 8192 := inb 0
  have hk : (x 0).val < 1024 := (x 0).isLt
  have e0 : ((Rect.unit (s := S8192x512) ![o, 0] S1024x512.size inb).emb x 0).val = n * 1024 + (x 0).val := by
    show o + 1 * (x 0).val = _
    omega
  have e1 : ((Rect.unit (s := S8192x512) ![o, 0] S1024x512.size inb).emb x 1) = x 1 := Fin.ext (by
    show 0 + 1 * (x 1).val = _
    omega)
  rw [hp]
  unfold resultOf
  rw [e1]
  have q1 : (n * 1024 + (x 0).val) / 1024 = n := by omega
  have q2 : (n * 1024 + (x 0).val) % 1024 = (x 0).val := by omega
  have q3 : (⟨((Rect.unit (s := S8192x512) ![o, 0] S1024x512.size inb).emb x 0).val % 1024, Nat.mod_lt _ (by decide)⟩ : Fin 1024) = x 0 :=
    Fin.ext (by show _ % 1024 = _; rw [e0, q2])
  rw [q3, e0, q1]

/-- Chunk `n` of the result. -/
def chunkOut (n : ℕ) : FVec F S1x1024x512 .f32 :=
  (finalCarry (featsM.view.read (Elt F) f0) (sg.view.read (Elt F) fs) (wt.view.read (Elt F) fw) (bs.view.read (Elt F) fb)).block (chunkX (featsM.view.read (Elt F) f0) n)

/-- The body's stores hold the result's chunks. -/
theorem chunkOut_eq (n : ℕ) (hn : n < 8) (y : S1x1024x512.Idx) :
    k0_pay126 (kernelRun.sl.r_74 c sg wt bs f0 fs fw fb) (kernelRun.sl.r_75 c sg wt bs f0 fs fw fb) (loadedX c f0 n) y
      = chunkOut c sg wt bs f0 fs fw fb n y := by
  have h := ran8 c sg wt bs f0 fs fw fb
  unfold chunkOut
  rw [← ran_eq, ← h.1, ← h.2, loadedX_eq c f0 n hn]; rfl

/-! Each transfer out carries one chunk. -/

/-- Chunk 0 on its way out. -/
theorem leaving0 (x : S1024x512.Idx) : kernelRun.sl.dma21 c sg wt bs f0 fs fw fb fz x = chunkOut c sg wt bs f0 fs fw fb 0 (ix3 0 (x 0) (x 1)) := by
  unfold kernelRun.sl.dma21 kernelRun.sl.Hob_1
  exact (stored c fz _ _ _ _ _ _ x).trans (chunkOut_eq c sg wt bs f0 fs fw fb 0 (by decide) _)

/-- Chunk 1 on its way out. -/
theorem leaving1 (x : S1024x512.Idx) : kernelRun.sl.dma24 c sg wt bs f0 fs fw fb fz x = chunkOut c sg wt bs f0 fs fw fb 1 (ix3 0 (x 0) (x 1)) := by
  unfold kernelRun.sl.dma24 kernelRun.sl.Hob_2
  exact (stored c fz _ _ _ _ _ _ x).trans (chunkOut_eq c sg wt bs f0 fs fw fb 1 (by decide) _)

/-- Chunk 2 on its way out. -/
theorem leaving2 (x : S1024x512.Idx) : kernelRun.sl.dma27 c sg wt bs f0 fs fw fb fz x = chunkOut c sg wt bs f0 fs fw fb 2 (ix3 0 (x 0) (x 1)) := by
  unfold kernelRun.sl.dma27 kernelRun.sl.Hob_3
  exact (stored c fz _ _ _ _ _ _ x).trans (chunkOut_eq c sg wt bs f0 fs fw fb 2 (by decide) _)

/-- Chunk 3 on its way out. -/
theorem leaving3 (x : S1024x512.Idx) : kernelRun.sl.dma30 c sg wt bs f0 fs fw fb fz x = chunkOut c sg wt bs f0 fs fw fb 3 (ix3 0 (x 0) (x 1)) := by
  unfold kernelRun.sl.dma30 kernelRun.sl.Hob_4
  exact (stored c fz _ _ _ _ _ _ x).trans (chunkOut_eq c sg wt bs f0 fs fw fb 3 (by decide) _)

/-- Chunk 4 on its way out. -/
theorem leaving4 (x : S1024x512.Idx) : kernelRun.sl.dma33 c sg wt bs f0 fs fw fb fz x = chunkOut c sg wt bs f0 fs fw fb 4 (ix3 0 (x 0) (x 1)) := by
  unfold kernelRun.sl.dma33 kernelRun.sl.Hob_5
  exact (stored c fz _ _ _ _ _ _ x).trans (chunkOut_eq c sg wt bs f0 fs fw fb 4 (by decide) _)

/-- Chunk 5 on its way out. -/
theorem leaving5 (x : S1024x512.Idx) : kernelRun.sl.dma36 c sg wt bs f0 fs fw fb fz x = chunkOut c sg wt bs f0 fs fw fb 5 (ix3 0 (x 0) (x 1)) := by
  unfold kernelRun.sl.dma36 kernelRun.sl.Hob_6
  exact (stored c fz _ _ _ _ _ _ x).trans (chunkOut_eq c sg wt bs f0 fs fw fb 5 (by decide) _)

/-- Chunk 6 on its way out. -/
theorem leaving6 (x : S1024x512.Idx) : kernelRun.sl.dma39 c sg wt bs f0 fs fw fb fz x = chunkOut c sg wt bs f0 fs fw fb 6 (ix3 0 (x 0) (x 1)) := by
  unfold kernelRun.sl.dma39 kernelRun.sl.Hob_7
  exact (stored c fz _ _ _ _ _ _ x).trans (chunkOut_eq c sg wt bs f0 fs fw fb 6 (by decide) _)

/-- Chunk 7 on its way out. -/
theorem leaving7 (x : S1024x512.Idx) : kernelRun.sl.dma42 c sg wt bs f0 fs fw fb fz x = chunkOut c sg wt bs f0 fs fw fb 7 (ix3 0 (x 0) (x 1)) := by
  unfold kernelRun.sl.dma42 kernelRun.sl.Hob_8
  exact (stored c fz _ _ _ _ _ _ x).trans (chunkOut_eq c sg wt bs f0 fs fw fb 7 (by decide) _)

/-- Each piece that leaves is the result's own rows there. -/
theorem leavings_own : ∀ p ∈ leavings c sg wt bs f0 fs fw fb fz, ∀ x, p.2 x
    = resultOf (featsM.view.read (Elt F) f0) (sg.view.read (Elt F) fs) (wt.view.read (Elt F) fw) (bs.view.read (Elt F) fb) (p.1.emb x) := by
  unfold leavings
  simp only [List.forall_mem_cons, List.not_mem_nil, false_imp_iff, implies_true, and_true]
  exact ⟨leaving_own _ _ _ _ _ _ 7 rfl _ (leaving7 c sg wt bs f0 fs fw fb fz),
    leaving_own _ _ _ _ _ _ 6 rfl _ (leaving6 c sg wt bs f0 fs fw fb fz),
    leaving_own _ _ _ _ _ _ 5 rfl _ (leaving5 c sg wt bs f0 fs fw fb fz),
    leaving_own _ _ _ _ _ _ 4 rfl _ (leaving4 c sg wt bs f0 fs fw fb fz),
    leaving_own _ _ _ _ _ _ 3 rfl _ (leaving3 c sg wt bs f0 fs fw fb fz),
    leaving_own _ _ _ _ _ _ 2 rfl _ (leaving2 c sg wt bs f0 fs fw fb fz),
    leaving_own _ _ _ _ _ _ 1 rfl _ (leaving1 c sg wt bs f0 fs fw fb fz),
    leaving_own _ _ _ _ _ _ 0 rfl _ (leaving0 c sg wt bs f0 fs fw fb fz)⟩

/-- They fill the result. -/
theorem leavings_cover (y : S8192x512.Idx) : ∃ p ∈ leavings c sg wt bs f0 fs fw fb fz, y ∈ p.1.set :=
  pieces_cover _ _ _ _ _ _ _ _ y

/-- After the body the result array holds the pieces that left. -/
theorem kernelRun_writes (hsg : sg.IsWhole) (hwt : wt.IsWhole) (hbs : bs.IsWhole) (fo : BufAt (F := F) c outM) (fv : BufAt (F := F) c fvM) :
    (kernelRun c sg hsg wt hwt bs hbs f0 fo fs fw fb fv fz).1 = outM.view.writes (Elt F) fo (leavings c sg wt bs f0 fs fw fb fz) := by
  unfold kernelRun leavings
  rfl

/-- After the body the result array holds the result. -/
theorem kernelRun_read (hsg : sg.IsWhole) (hwt : wt.IsWhole) (hbs : bs.IsWhole) (fo : BufAt (F := F) c outM) (fv : BufAt (F := F) c fvM) :
    (kernelRun c sg hsg wt hwt bs hbs f0 fo fs fw fb fv fz).1
      = resultOf (featsM.view.read (Elt F) f0) (sg.view.read (Elt F) fs) (wt.view.read (Elt F) fw) (bs.view.read (Elt F) fb) := by
  rw [kernelRun_writes]
  rw [← View.read_whole main_v5 (outM.view.writes (Elt F) fo (leavings c sg wt bs f0 fs fw fb fz))]
  funext y
  exact View.read_writes_apply_of_pieces outM.view fo _ (leavings c sg wt bs f0 fs fw fb fz) (leavings_own c sg wt bs f0 fs fw fb fz) y (leavings_cover c sg wt bs f0 fs fw fb fz y)

end Cert.KernelIdeal.Hand

end
-- ==== Proof.K.Frame.lean ====
module

public import proofs.«01_k».proof.Proof.K.Out
public import proofs.«01_k».proof.Proof.Gen.KernelIdeal.Frame

@[expose] public section

set_option maxRecDepth 16384

noncomputable section

/-! # The kernel's run

From any launch the program terminates, the six argument arrays end unchanged, every counter ends at zero and the
result array holds `resultOf` of the arrays the body is handed. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The host operations before the kernel, then the kernel. -/
theorem hmainUD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The sixteen transfer counters of the body. -/
abbrev osem0 : Fin 16 → SemLoc sig := fun j =>
  (![SemLoc.dma 3, SemLoc.dma 4, SemLoc.dma 5, SemLoc.dma 6, SemLoc.dma 7, SemLoc.dma 8, SemLoc.dma 9, SemLoc.dma 10,
    SemLoc.dma 11, SemLoc.dma 12, SemLoc.dma 13, SemLoc.dma 14, SemLoc.dma 15, SemLoc.dma 16, SemLoc.dma 17,
    SemLoc.dma 18] : Fin 16 → SemLoc sig) j

/-- They are no staging counters and are distinct. -/
theorem ownSemFacts0 : Pipeline.OwnSemFacts spec0 osem0 := by decide

/-- The counters one by one. -/
theorem ownSems0_list (c : Dev nD) :
    (Pipeline.ownSems0 (Ix := Unit) (Name := ℕ) (U := Pipeline.UD sig nD τ) (Lvl := ℕ) (Val := Elt F) (τ := τ) osem0 c : sProp 𝕄)
      = zeros c := by
  rw [Pipeline.ownSems0_eq_of_list c osem0 [0, 1, 2, 3, 4, 5, 6, 7, 8, 9, 10, 11, 12, 13, 14, 15] (by decide) (by decide)]; rfl

/-- The array the body's transfers read. -/
def H0 : Finset (Ref sig .tc) := {main_arg0}
/-- The array the body's transfers write. -/
def R0 : Finset (Ref sig .tc) := {main_v5}
/-- The array read is none of the staged ones. -/
theorem H0_sub : H0 ⊆ Pipeline.restRefs sig spec0 := by decide
/-- The array written is none of the staged ones and not the one read. -/
theorem R0_sub : R0 ⊆ Pipeline.restRefs sig spec0 \ H0 := by decide

/-- The array read, alone. -/
theorem readPts_eq (c : Dev nD) :
    (bigSep H0 (fun b => ((c : Thread nD τ).loc b) ↦{fullShare} V m c b) : sProp 𝕄) = holds c featsM (V m c main_arg0) := by
  rw [BI.bigSep_eq_bigSepL_of_eq [main_arg0] (by decide) (by decide)]; rfl

/-- The array written, alone. -/
theorem routed_eq (c : Dev nD) (G : (b : Ref sig .tc) → Buf (Elt F) ((c : Thread nD τ).loc b)) :
    (Pipeline.routed R0 c G : sProp 𝕄) = holds c outM (G main_v5) := by
  unfold Pipeline.routed
  rw [BI.bigSep_eq_bigSepL_of_eq [main_v5] (by decide) (by decide)]; rfl

/-- The staged copy of window 0, 1 or 2, as the body receives it. -/
abbrev stagedS (c : Dev nD) : Vec F S1x8192 .i32 := iblk m c 0 t0_0
abbrev stagedW (c : Dev nD) : Vec F S2x512 .f32 := iblk m c 1 t0_0
abbrev stagedB (c : Dev nD) : Vec F S2x1 .f32 := iblk m c 2 t0_0

/-- What the result array holds after the run. -/
def outAt (c : Dev nD) : Vec F S8192x512 .f32 := resultOf (V m c main_arg0) (stagedS m c) (stagedW m c) (stagedB m c)

/-- The buffers' contents after the run: the result array replaced. -/
def leftAt (c : Dev nD) (b : Ref sig .tc) : Buf (Elt F) ((c : Thread nD τ).loc b) :=
  Function.update (β := fun b : Ref sig .tc => Buf (Elt F) ((c : Thread nD τ).loc b)) (V m c) main_v5 (outAt m c) b

/-- The result array, after the run. -/
theorem leftAt_out (c : Dev nD) : leftAt m c main_v5 = outAt m c := by unfold leftAt; exact Function.update_self ..

/-- The proof data: the windows' contents stay, the array written moves to its final contents. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ i := match i.val with
    | 0 => Pipeline.ΦDRG osem0 spec0 H0 R0 (V m) (V m) c
    | _ + 1 => Pipeline.ΦDRG osem0 spec0 H0 R0 (V m) (leftAt m) c
  q _ := fullShare
  owed _ := 0

/-- A window's array is as the host operations left it. -/
theorem A_eq (c : Dev nD) (w : Fin cfg0.W) : (dats m 0 c).A w = V m c (Pipeline.arrRef spec0 w) := by
  dsimp only [dats]
/-- The first window's staged copy after the body is its block. -/
theorem after_0 (c : Dev nD) (t : Fin cfg0.N) : (dats m 0 c).after 0 t = iblk m c 0 t := by dsimp only [dats]
/-- The second window's staged copy after the body is its block. -/
theorem after_1 (c : Dev nD) (t : Fin cfg0.N) : (dats m 0 c).after 1 t = iblk m c 1 t := by dsimp only [dats]
/-- The third window's staged copy after the body is its block. -/
theorem after_2 (c : Dev nD) (t : Fin cfg0.N) : (dats m 0 c).after 2 t = iblk m c 2 t := by dsimp only [dats]

/-- The first window's staging buffer holds its block when the body starts. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- The same for the second window. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- The same for the third window. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body is entered with. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))
/-- What the body leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

/-- Before the body the array written is as the run found it. -/
theorem Phi_start (c : Dev nD) : (dats m 0 c).Φ t0_0.castSucc = Pipeline.ΦDRG osem0 spec0 H0 R0 (V m) (V m) c := rfl
/-- After the body the array written has its final contents. -/
theorem Phi_end (c : Dev nD) : (dats m 0 c).Φ t0_0.succ = Pipeline.ΦDRG osem0 spec0 H0 R0 (V m) (leftAt m) c := rfl

/-- The body's run between the two. -/
theorem sound_body (c : Dev nD) :
    bodyPre m c t0_0 ⊢ wp frame (wpE (defs₀ (F := F)) Variants.none c none) Set.univ (bodyAt0 t0_0) (fun _ => bodyPost m c t0_0) := by
  unfold bodyPre bodyPost bodyAt0
  rw [Phi_start, Phi_end, after_0, after_1, after_2]
  simp only [before_0, before_1, before_2]
  simp only [Pipeline.ΦDRG_eq, scopedRest0_eq, ownSems0_list, readPts_eq, routed_eq, leftAt_out]
  unfold Dat.owesAt Pipeline.owesWithin
  rw [show (dats m 0 c).owed t0_0.castSucc = 0 from rfl, show (dats m 0 c).owed t0_0.succ = 0 from rfl]
  unfold owns
  iintro ⟨⟨⟨⟨%fv, Hfv⟩, ⟨%fz, Hfz⟩⟩, Hg, Hq, Hh, Ho⟩, ⟨%W, -, HW⟩, ⟨%d0, ⟨%fs, %es, Hs⟩⟩, ⟨%d1, ⟨%fw, %ew, Hw⟩⟩, ⟨%d2, ⟨%fb, %eb, Hb⟩⟩⟩
  iapply ((kernelRun c _ _ _ _ _ _ (V m c main_arg0) (V m c main_v5) fs fw fb fv fz).2 W _)
  isplitl [Hs]; · iexact Hs
  isplitl [Hw]; · iexact Hw
  isplitl [Hb]; · iexact Hb
  isplitl [Hfv]; · iexact Hfv
  isplitl [Hfz]; · iexact Hfz
  isplitl [Hq]; · iexact Hq
  isplitl [Hh]; · iexact Hh
  isplitl [Ho]; · iexact Ho
  isplitl [HW]; · iexact HW
  rw [kernelRun_read, es, ew, eb]
  iintro ⟨Hs, Hw, Hb, Hfv, Hfz, Hq, Hh, Ho, ⟨%W', HW'⟩⟩
  isplitl [Hfv Hfz Hg Hq Hh Ho]
  · isplitl [Hfv Hfz]
    · isplitl [Hfv]; · iexact Hfv
      iexact Hfz
    isplitl [Hg]; · iexact Hg
    isplitl [Hq]; · iexact Hq
    isplitl [Hh]; · iexact Hh
    iexact Ho
  isplitl [HW']
  · iexists W'; isplitr; · ipureintro; exact fun _ _ => Or.inl trivial
    iexact HW'
  isplitl [Hs]
  · iexists fs; isplitr; · ipureintro; exact es
    iexact Hs
  isplitl [Hw]
  · iexists fw; isplitr; · ipureintro; exact ew
    iexact Hw
  iexists fb; isplitr; · ipureintro; exact eb
  iexact Hb

/-- The body called at a grid step. -/
theorem defs₀_row (t : Fin cfg0.N) :
    defs₀ (F := F) .tc cfg0.body (cfg0.bodyArgs t (cfg0.slots t)) = bodyAt0 t := by
  unfold defs₀; rw [Defs.onTc_tc]

/-- The body meets what the launch asks of it. -/
theorem body_obligation (c : Dev nD) : BodyObligation (dats (F := F) m 0 c) (defs₀ (F := F)) Variants.none () Set.univ := fun t => by
  obtain rfl : t = t0_0 := fin_N0 t
  rw [bigSep_W0, bigSep_W0, defs₀_row]
  exact triple_restated (sound_body m c) rfl .rfl fun _ => .rfl

set_option backward.isDefEq.respectTransparency.types false in
/-- The whole program's run. -/
theorem run_main : θ_run defs (onTc (τ := τ) (main (F := F))) (s₀ m ρ)
    (fun r => Pipeline.FramePostRG cfgs (dats m) 0 R0 (V m) (leftAt m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainUD m Variants.none) (hA := A_eq m) (G := leftAt m)
    (hin := fun _ => .rfl) (hout := fun _ => .rfl)

/-- The program terminates, its arguments are unchanged, every counter ends at zero, and the result is `outAt`. -/
theorem run_value : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = (fun _ => 0)
      ∧ ∀ c : Dev nD, r.2.mem ((c.tc : Thread nD τ).loc main_v5) = outAt m c) :=
  (θ_run defs _ _).mono (fun r h => by
    have hk : ∀ (c : Dev nD) (b : Ref sig .tc), b ∈ Pipeline.restRefs sig spec0 \ R0 →
        r.2.mem ((c.tc : Thread nD τ).loc b) = V m c b := fun c b hb => (h.1.toR c).2 b hb
    refine ⟨fun c => ⟨(hk c main_arg0 (by decide)).trans (V_main_arg0 m c), (hk c main_arg1 (by decide)).trans (V_main_arg1 m c),
      (hk c main_arg2 (by decide)).trans (V_main_arg2 m c), (hk c main_arg3 (by decide)).trans (V_main_arg3 m c),
      (hk c main_arg4 (by decide)).trans (V_main_arg4 m c), (hk c main_arg5 (by decide)).trans (V_main_arg5 m c)⟩, h.2,
      fun c => (h.1.written c (by decide)).trans (leftAt_out m c)⟩) (run_main m ρ)

end Cert.KernelIdeal.Hand

end
-- ==== Proof.K.Same.lean ====
module

public import proofs.«01_k».proof.Defs
public import proofs.«01_k».proof.Proof.K.Frame
public import proofs.«01_k».proof.Proof.Gen.Kernel
public import proofs.«01_k».proof.Proof.Gen.Pre_inputs_ok

@[expose] public section

noncomputable section

/-! # The two printed kernels are one program

No operation was rewritten for the ideal reading, so the two printed programs are equal definition by definition, and
one proof of the run serves both. -/

namespace Cert.Proof

open Idealize.ShloMosaic Idealize.SL.Sem

/-- The two bodies are the same program. -/
theorem body_same : Cert.Kernel.cc0__ain_body (F := Bits) = Cert.KernelIdeal.cc0__ain_body (F := Bits) := rfl

/-- The two body tables agree. -/
theorem table_same : Cert.Kernel.defs₀ (F := Bits) = Cert.KernelIdeal.defs₀ (F := Bits) := by
  unfold Cert.Kernel.defs₀ Cert.KernelIdeal.defs₀
  congr 1
  funext l a
  match l with
  | 0 => rfl

/-- So do the tables with the region's own entries. -/
theorem defs_same : Cert.Kernel.defs (F := Bits) = Cert.KernelIdeal.defs (F := Bits) :=
  congrArg (Pipeline.defs (Cert.KernelIdeal.pcfgs (F := Bits))) table_same

/-- And the entry functions. -/
theorem main_same : Cert.Kernel.main (F := Bits) = Cert.KernelIdeal.main (F := Bits) := rfl

/-- The frame of the kernel over the float words. -/
theorem frame_kernel : Cert.quiescent_Kernel := fun m g _ => by
  rw [show Cert.Kernel.defs (F := Bits) = _ from defs_same, show Cert.Kernel.main (F := Bits) = _ from main_same]
  exact (θ_run Cert.KernelIdeal.defs _ _).mono (fun _ h => And.intro h.1 h.2.1) (Cert.KernelIdeal.Hand.run_value (F := Bits) m g)

/-- The frame of the kernel at extended reals. -/
theorem frame_ideal : Cert.quiescent_KernelIdeal := fun m g _ =>
  (θ_run Cert.KernelIdeal.defs _ _).mono (fun _ h => And.intro h.1 h.2.1) (Cert.KernelIdeal.Hand.run_value (F := Ideal) m g)

/-- The same under the precondition, which it does not need. -/
theorem frame_ideal_pre : Cert.quiescent_KernelIdeal_pre_inputs_ok := fun m g _ =>
  (θ_run Cert.KernelIdeal.defs _ _).mono (fun _ h => And.intro h.1 h.2.1) (Cert.KernelIdeal.Hand.run_value (F := Ideal) m g)

end Cert.Proof

end
-- ==== Proof.RefFrame.lean ====
module

public import proofs.«01_k».proof.Defs
public import proofs.«01_k».proof.Proof.Gen.ReferenceIdeal
public import proofs.«01_k».proof.Proof.Gen.Pre_inputs_ok
public import Idealize.ShloMosaic.Adequacy
public import Idealize.ShloMosaic.Init
public import Idealize.ShloMosaic.Lib.Quiescent
public import proofs.«01_k».proof.Proof.Gen.ReferenceIdeal.Run

@[expose] public section

noncomputable section

/-! # The reference's frame -/

namespace Cert.Proof

open Idealize.ShloMosaic Idealize.SL.Sem

/-- The reference terminates and leaves its arguments; it has no counter that could end elsewhere than at zero. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The same under the precondition, which it does not need. -/
theorem frame_reference_pre : Cert.quiescent_ReferenceIdeal_pre_inputs_ok := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

end Cert.Proof

end
-- ==== Proof.Math.Coe.lean ====
module

public import Idealize.ShloMosaic.Lib.Pointwise
public import Mathlib.Tactic.NormNum

@[expose] public section

noncomputable section

/-! # Extended reals that are real

The operations of the ideal reading at real numbers. -/

namespace Cert.Attn

open Idealize.ShloMosaic

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A choice between reals. -/
theorem coe_ite (c : Prop) [Decidable c] (a b : ℝ) : ((if c then a else b : ℝ) : EReal) = if c then (a : EReal) else (b : EReal) := by
  split_ifs <;> rfl

/-- A quotient of reals. -/
theorem div_real (a b : ℝ) (h : b ≠ 0) : Ideal.div (a : EReal) (b : EReal) = ((a / b : ℝ) : EReal) := by
  rw [Ideal.div_coe h, ← EReal.coe_mul, mul_one_div]

/-- A nonempty maximum of reals is real, and at least each of them. -/
theorem fold_max_real {ι : Type} (s : Finset ι) (hs : s.Nonempty) (f : ι → ℝ) :
    ∃ M : ℝ, Finset.fold max (⊥ : EReal) (fun i => (f i : EReal)) s = (M : EReal) := by
  classical
  induction hs using Finset.Nonempty.cons_induction with
  | singleton a => exact ⟨f a, by simp⟩
  | cons a s ha _ ih =>
    obtain ⟨M, hM⟩ := ih
    exact ⟨max (f a) M, by rw [Finset.fold_cons, hM]; exact (EReal.coe_strictMono.monotone.map_max).symm⟩

/-- A maximum of values none of which is plus infinity and one of which is real is real. -/
theorem fold_max_some {ι : Type} (s : Finset ι) (f : ι → EReal) (ht : ∀ i ∈ s, f i < ⊤) {i : ι} (hi : i ∈ s) (hb : ⊥ < f i) :
    ∃ M : ℝ, Finset.fold max (⊥ : EReal) f s = (M : EReal) := by
  have h1 : Finset.fold max (⊥ : EReal) f s < ⊤ := (Finset.fold_max_lt _).mpr ⟨bot_lt_top, ht⟩
  have h2 : ⊥ < Finset.fold max (⊥ : EReal) f s := (Finset.lt_fold_max _).mpr (Or.inr ⟨i, hi, hb⟩)
  exact ⟨_, (EReal.coe_toReal h1.ne h2.ne').symm⟩

/-- The word of minus infinity. -/
theorem word_bot : Ideal.ofBits FTy.f32 0xFF800000#32 = (⊥ : EReal) := by
  simp [Ideal.ofBits, Ideal.ieee]

/-- The word of plus infinity. -/
theorem word_top : Ideal.ofBits FTy.f32 0x7F800000#32 = (⊤ : EReal) := by
  simp [Ideal.ofBits, Ideal.ieee]

/-- The kernel's first maximum is some real number. -/
theorem word_low : ∃ r : ℝ, Ideal.ofBits FTy.f32 0xF149F2CA#32 = (r : EReal) := by
  show ∃ r : ℝ, Ideal.ieee 8 23 (0xF149F2CA#32) = (r : EReal)
  unfold Ideal.ieee
  rw [if_neg (by decide), if_neg (by decide)]
  exact ⟨_, rfl⟩

/-- Group numbers compare as words as they do as numbers. -/
theorem same_group : ∀ a b : Fin 8, IntOp.cmpi CmpIPredicate.eq (BitVec.ofNat 32 a.val) (BitVec.ofNat 32 b.val) = if a = b then 1#1 else 0#1 := by
  decide

/-- The comparison of two group numbers, as a number. -/
theorem member_real (a b : Fin 8) :
    FloatOps.sitofp (F := Ideal) FTy.f32 (BitVec.setWidth 32 (IntOp.cmpi CmpIPredicate.eq (BitVec.ofNat 32 a.val) (BitVec.ofNat 32 b.val)))
      = ((if a = b then 1 else 0 : ℝ) : EReal) := by
  rw [same_group]
  split_ifs
  · show (((BitVec.setWidth 32 1#1).toInt : ℝ) : EReal) = _
    simp
  · show (((BitVec.setWidth 32 0#1).toInt : ℝ) : EReal) = _
    simp

/-- A choice by the comparison of two group numbers. -/
theorem select_group {α : Type} (a b : Fin 8) (u v : α) :
    Scalar.select (IntOp.cmpi CmpIPredicate.eq (BitVec.ofNat 32 a.val) (BitVec.ofNat 32 b.val)) u v = if a = b then u else v := by
  rw [same_group]
  split_ifs <;> rfl

end Cert.Attn

end
-- ==== Proof.Pre.lean ====
module

public import proofs.«01_k».proof.Proof.Gen.Pre_inputs_ok
public import proofs.«01_k».proof.Proof.Math.Coe
public import Idealize.ShloMosaic.Lib.ReduceAll
public import Idealize.ShloMosaic.Lib.WordCmp

@[expose] public section

set_option maxRecDepth 16384

noncomputable section

/-! # What the precondition says

The float arguments are real, the group numbers are in range and no column is constant. -/

namespace Cert.Pre_inputs_ok.Hand

open Cert.Pre_inputs_ok Cert.Pre_inputs_ok.Gen
open Idealize.ShloMosaic Idealize.SL.Sem

/-- There is one index of a scalar. -/
instance : Subsingleton S_.Idx := ⟨fun _ _ => funext fun a => a.elim0⟩

/-- Where the comparison finds one value below another, it is. -/
theorem lt_of_olt (x y : Ideal .f32) (h : FloatOps.cmpf .olt x y = 1#1) : (x : EReal) < y := by
  have h' : BitVec.ofBool (decide ((x : EReal) < y)) = 1#1 := h
  by_contra hn
  rw [decide_eq_false hn] at h'
  exact absurd h' (by decide)

/-- A value whose absolute value is below plus infinity is real. -/
theorem real_of_abs (x : Ideal .f32)
    (h : FloatOps.cmpf .olt (FloatOps.hostAbsf x) (FloatOps.ofBits (F := Ideal) .f32 0x7F800000#32) = 1#1) : ∃ r : ℝ, x = (r : EReal) := by
  have hlt : max (x : EReal) (-x) < ⊤ := Attn.word_top ▸ lt_of_olt _ _ h
  obtain ⟨h1, h2⟩ := max_lt_iff.mp hlt
  refine ⟨EReal.toReal x, (EReal.coe_toReal h1.ne fun hb => ?_).symm⟩
  rw [hb] at h2
  exact absurd h2 (by simp)

/-- A word in range is a group number. -/
theorem group_of_range (x : BitVec 32) (h : IntOp.andi (IntOp.cmpi .sge x 0#32) (IntOp.cmpi .slt x 8#32) = 1#1) :
    ∃ a : Fin 8, x = BitVec.ofNat 32 a.val := by
  have h' : BitVec.ofBool (decide (x.toNat < 8)) = 1#1 := (WordCmp.andi_sge_zero_slt_ofNat (w := 32) (k := 8) (by decide) x).symm.trans h
  have hlt : x.toNat < 8 := by
    by_contra hn
    rw [decide_eq_false hn] at h'
    exact absurd h' (by decide)
  exact ⟨⟨x.toNat, hlt⟩, by simp⟩

/-- A list whose minimum is below its maximum has an entry below another. -/
theorem two_entries {ι : Type} [Fintype ι] (f : ι → EReal)
    (h : Finset.fold min ⊤ f Finset.univ < Finset.fold max ⊥ f Finset.univ) : ∃ i j, f i < f j := by
  by_contra hn
  push Not at hn
  refine absurd h (not_lt.mpr ((Finset.fold_max_le _).mpr ⟨bot_le, fun i _ => (Finset.le_fold_min _).mpr ⟨le_top, fun j _ => hn j i⟩⟩))

/-- The minimum of a column. -/
theorem column_min (X : FVec Ideal S8192x512 .f32) (j : Fin 512) :
    Host.reduce FloatOps.minimumf X (constant S_ .f32 0x7F800000#32) reducesTo_S8192x512_S512_d0 h_S_ (ix1 j)
      = Finset.fold min (Ideal.ofBits FTy.f32 0x7F800000#32) (fun i => X (ix2 i j)) Finset.univ := by pointwise []

/-- The maximum of a column. -/
theorem column_max (X : FVec Ideal S8192x512 .f32) (j : Fin 512) :
    Host.reduce FloatOps.maximumf X (constant S_ .f32 0xFF800000#32) reducesTo_S8192x512_S512_d0 h_S_ (ix1 j)
      = Finset.fold max (Ideal.ofBits FTy.f32 0xFF800000#32) (fun i => X (ix2 i j)) Finset.univ := by pointwise []

/-- The comparison of two lists, at an entry. -/
theorem entry_lt (A B : FVec Ideal S512 .f32) (j : Fin 512) (h : cmpf .olt A B (ix1 j) = 1#1) : (A (ix1 j) : EReal) < B (ix1 j) :=
  lt_of_olt _ _ h

/-- A column whose minimum is found below its maximum has an entry below another. -/
theorem column (X : FVec Ideal S8192x512 .f32) (j : Fin 512)
    (h : cmpf .olt (Host.reduce FloatOps.minimumf X (constant S_ .f32 0x7F800000#32) reducesTo_S8192x512_S512_d0 h_S_)
      (Host.reduce FloatOps.maximumf X (constant S_ .f32 0xFF800000#32) reducesTo_S8192x512_S512_d0 h_S_) (ix1 j) = 1#1) :
    ∃ i i', X (ix2 i j) < X (ix2 i' j) := by
  have hlt := entry_lt _ _ j h
  rw [column_min, column_max, Attn.word_top, Attn.word_bot] at hlt
  exact two_entries _ hlt

/-- The precondition, decoded. -/
theorem decoded (X : FVec Ideal S8192x512 .f32) (s : IVec S8192 32) (Wl : FVec Ideal S512x1 .f32) (Bl : FVec Ideal S1 .f32)
    (Wg : FVec Ideal S512x1 .f32) (Bg : FVec Ideal S1 .f32) (h : fn (F := Ideal) X s Wl Bl Wg Bg = fun _ => 1#1) :
    (∀ y, ∃ r : ℝ, X y = (r : EReal)) ∧ (∀ y, ∃ a : Fin 8, s y = BitVec.ofNat 32 a.val) ∧ (∀ y, ∃ r : ℝ, Wl y = (r : EReal))
      ∧ (∀ y, ∃ r : ℝ, Bl y = (r : EReal)) ∧ (∀ y, ∃ r : ℝ, Wg y = (r : EReal)) ∧ (∀ y, ∃ r : ℝ, Bg y = (r : EReal))
      ∧ ∀ j, ∃ i i', X (ix2 i j) < X (ix2 i' j) := by
  obtain ⟨h6, hc⟩ := IntOp.andi_eq_one.1 (show IntOp.andi _ _ = 1#1 from congrFun h ix0)
  obtain ⟨h5, hs⟩ := IntOp.andi_eq_one.1 (show IntOp.andi _ _ = 1#1 from h6)
  obtain ⟨h4, hBg⟩ := IntOp.andi_eq_one.1 (show IntOp.andi _ _ = 1#1 from h5)
  obtain ⟨h3, hWg⟩ := IntOp.andi_eq_one.1 (show IntOp.andi _ _ = 1#1 from h4)
  obtain ⟨h2, hBl⟩ := IntOp.andi_eq_one.1 (show IntOp.andi _ _ = 1#1 from h3)
  obtain ⟨hX, hWl⟩ := IntOp.andi_eq_one.1 (show IntOp.andi _ _ = 1#1 from h2)
  exact ⟨fun y => real_of_abs _ (Host.reduce_andi_all _ _ _ _ _ hX y), fun y => group_of_range _ (Host.reduce_andi_all _ _ _ _ _ hs y),
    fun y => real_of_abs _ (Host.reduce_andi_all _ _ _ _ _ hWl y), fun y => real_of_abs _ (Host.reduce_andi_all _ _ _ _ _ hBl y),
    fun y => real_of_abs _ (Host.reduce_andi_all _ _ _ _ _ hWg y), fun y => real_of_abs _ (Host.reduce_andi_all _ _ _ _ _ hBg y),
    fun j => column X j (Host.reduce_andi_all _ _ _ _ _ hc (ix1 j))⟩

end Cert.Pre_inputs_ok.Hand

end
-- ==== Proof.K.Payload.lean ====
module

public import proofs.«01_k».proof.Proof.K.Block
public import proofs.«01_k».proof.Proof.Math.Coe

@[expose] public section

set_option maxRecDepth 16384

noncomputable section

/-! # The body's values, entry by entry

Each named value of the body at an index, read on the extended reals. -/

namespace Cert.KernelIdeal.Hand

open Cert.KernelIdeal Cert.KernelIdeal.Gen
open Idealize.ShloMosaic Idealize.SL.Sem

variable (w : FVec Ideal S2x512 .bf16) (b : FVec Ideal S2x1 .f32) (x : Vec Ideal S1024x512 .f32) (s : Vec Ideal S1x1024 .i32)
  (z : FVec Ideal S2x1024 .f32) (m : FVec Ideal S8x1 .f32) (d : FVec Ideal S8x1 .f32) (t : Carry Ideal)

/-- The scores of a chunk: a row's dot product with the weights, and the bias. -/
theorem score_apply (i : Fin 2) (k : Fin 1024) :
    k0_pay9 w b x (ix2 i k) = ∑ d, w (ix2 i d) * x (ix2 k d) + b (ix2 i 0) := by
  pointwise [k0_pay9, k0_pay8]

/-- Whether a row is in a group, as a number. -/
theorem member_apply (i : Fin 8) (k : Fin 1024) :
    k0_pay11 (F := Ideal) s (ix2 i k) = FloatOps.sitofp FTy.f32 (BitVec.setWidth 32 (IntOp.cmpi CmpIPredicate.eq (s (ix2 0 k)) (BitVec.ofNat 32 ↑i))) := by
  pointwise [k0_pay11, k0_pay10]

/-- The running maximum of a group after a chunk. -/
theorem top_apply (i : Fin 8) :
    k0_pay12 m z s (ix2 i 0) = max (m (ix2 i 0)) (Finset.fold max (Ideal.ofBits FTy.f32 4286578688#32)
      (fun x => Scalar.select (IntOp.cmpi .eq (s (ix2 0 x)) (BitVec.ofNat 32 ↑i)) (z (ix2 1 x)) (Ideal.ofBits FTy.f32 4048155338#32)) Finset.univ) := by
  pointwise [k0_pay12, k0_pay10]

/-- The factor by which the old sums of a group shrink. -/
theorem shrink_apply (i : Fin 8) : k0_pay13 m z s (ix2 i 0) = Ideal.exp (m (ix2 i 0) - k0_pay12 m z s (ix2 i 0)) := by
  pointwise [k0_pay13]

/-- The exponential of a row's score, shifted by the maximum of its group. -/
theorem expo_apply (k : Fin 1024) :
    k0_pay14 m z s (ix2 0 k) = Ideal.exp (z (ix2 1 k) - ∑ x, k0_pay11 s (ix2 x k) * k0_pay12 m z s (ix2 x 0)) := by
  pointwise [k0_pay14]

/-- That exponential by the row's gate, in the row's group. -/
theorem gated_apply (i : Fin 8) (k : Fin 1024) :
    k0_pay15 m z s (ix2 i k) = k0_pay11 s (ix2 i k) * (Ideal.logistic (z (ix2 0 k)) * k0_pay14 m z s (ix2 0 k)) := by
  pointwise [k0_pay15]

/-- The sum of exponentials after a chunk. -/
theorem den_apply (i : Fin 8) :
    k0_pay16 m d z s (ix2 i 0) = d (ix2 i 0) * k0_pay13 m z s (ix2 i 0) + ∑ x, k0_pay11 s (ix2 i x) * k0_pay14 m z s (ix2 0 x) := by
  pointwise [k0_pay16]

/-- The sum of gated exponentials after a chunk. -/
theorem wsum_apply (i : Fin 8) :
    k0_pay17 m d z s (ix2 i 0) = d (ix2 i 0) * k0_pay13 m z s (ix2 i 0) + ∑ x, k0_pay15 m z s (ix2 i x) := by
  pointwise [k0_pay17]

/-- The weighted sum of entries after a chunk. -/
theorem lin_apply (e : FVec Ideal S8x512 .f32) (i : Fin 8) (j : Fin 512) :
    k0_pay19 m e (k0_pay8 x) z s (ix2 i j) = e (ix2 i j) * k0_pay13 m z s (ix2 i 0) + ∑ k, k0_pay15 m z s (ix2 i k) * x (ix2 k j) := by
  pointwise [k0_pay19, k0_pay18, k0_pay8]

/-- The weighted sum of squares after a chunk. -/
theorem quad_apply (e : FVec Ideal S8x512 .f32) (i : Fin 8) (j : Fin 512) :
    k0_pay20 m e (k0_pay8 x) z s (ix2 i j)
      = e (ix2 i j) * k0_pay13 m z s (ix2 i 0) + ∑ k, k0_pay15 m z s (ix2 i k) * (x (ix2 k j) * x (ix2 k j)) := by
  pointwise [k0_pay20, k0_pay18, k0_pay8]

/-- The reciprocal of a group's sum of exponentials. -/
theorem inv_apply (i : Fin 8) : t.inv (ix2 i 0) = if 0 < t.den (ix2 i 0) then Ideal.div 1 (t.den (ix2 i 0)) else 0 := by
  pointwise [Carry.inv]

/-- The sum of all weights. -/
theorem total_apply : k0_pay120 t.total = ∑ x : Fin 8, ∑ x_1 : Fin 1, t.wsum (ix2 x 0) * t.inv (ix2 x 0) := by
  pointwise [Carry.total, k0_pay120]

/-- The weighted mean of a column. -/
theorem mean_apply (P : FVec Ideal S8x512 .f32) (v : FVec Ideal S8x1 .f32) (u : FVec Ideal S1 .f32) (j : Fin 512) :
    k0_pay121 P v u (ix2 0 j) = Ideal.div (∑ x, P (ix2 x j) * v (ix2 x 0)) (k0_pay120 u) := by
  pointwise [k0_pay121]

/-- The scale of a column. -/
theorem scale_apply (P Q : FVec Ideal S8x512 .f32) (v : FVec Ideal S8x1 .f32) (u : FVec Ideal S1 .f32) (j : Fin 512) :
    k0_pay122 P Q v u (ix2 0 j) = Ideal.rsqrt (Ideal.div (∑ x, Q (ix2 x j) * v (ix2 x 0)) (k0_pay120 u)
      - k0_pay121 P v u (ix2 0 j) * k0_pay121 P v u (ix2 0 j)) := by
  pointwise [k0_pay122]

/-- The shift of a column. -/
theorem shift_apply (P Q : FVec Ideal S8x512 .f32) (v : FVec Ideal S8x1 .f32) (u : FVec Ideal S1 .f32) (j : Fin 512) :
    k0_pay123 P Q v u (ix2 0 j) = k0_pay121 P v u (ix2 0 j) * k0_pay122 P Q v u (ix2 0 j) := by
  pointwise [k0_pay123]

/-- An entry of the result. -/
theorem entry_apply (A B : FVec Ideal S1x512 .f32) (k : Fin 1024) (j : Fin 512) :
    k0_pay126 A B x (ix3 0 k j) = x (ix2 k j) * A (ix2 0 j) - B (ix2 0 j) := by
  pointwise [k0_pay126]

/-- What is carried before the first chunk: a low number, and noughts. -/
theorem start_apply (i : Fin 8) (j : Fin 512) :
    (Carry.start (F := Ideal)).top (ix2 i 0) = Ideal.ofBits FTy.f32 4048155338#32 ∧ (Carry.start (F := Ideal)).den (ix2 i 0) = 0
      ∧ (Carry.start (F := Ideal)).wsum (ix2 i 0) = 0 ∧ (Carry.start (F := Ideal)).lin (ix2 i j) = 0 ∧ (Carry.start (F := Ideal)).quad (ix2 i j) = 0 := by
  refine ⟨?_, ?_, ?_, ?_, ?_⟩ <;> pointwise [Carry.start, k0_pay3, k0_pay4, k0_pay5, k0_pay6, k0_pay7]

/-- The weights and biases are taken as they are. -/
theorem weights_apply (w : FVec Ideal S2x512 .f32) (i : Fin 2) (j : Fin 512) : k0_pay1 (F := Ideal) w (ix2 i j) = w (ix2 i j) := by
  pointwise [k0_pay1]

/-- The biases at an index. -/
theorem biases_apply (b : FVec Ideal S2x1 .f32) (i : Fin 2) : k0_pay2 (F := Ideal) b (ix2 i 0) = b (ix2 i 0) := by
  pointwise [k0_pay2]

end Cert.KernelIdeal.Hand

end
-- ==== Proof.Math.Softmax.lean ====
module

public import Idealize.ShloMosaic.Lib.Pointwise
public import Mathlib.Tactic.FieldSimp
public import Mathlib.Tactic.Ring
public import Mathlib.Tactic.Positivity

@[expose] public section

noncomputable section

/-! # Attentive instance normalisation over the reals

Every row `i` has a group `q i`, a score `g i` and a positive gate `p i`.  Its weight is the gate by the softmax of
the score within the row's group; a column is normalised by its weighted mean and its weighted deviation. -/

namespace Cert.Attn

/-- A gate: the logistic function. -/
def gate (l : ℝ) : ℝ := (1 + Real.exp (-l))⁻¹

/-- A row's score: its dot product with the weights, and the bias. -/
def score (f : Fin 8192 → Fin 512 → ℝ) (w : Fin 512 → ℝ) (b : ℝ) (i : Fin 8192) : ℝ := ∑ d, f i d * w d + b

/-- The gate of a row. -/
def gates (f : Fin 8192 → Fin 512 → ℝ) (w : Fin 512 → ℝ) (b : ℝ) (i : Fin 8192) : ℝ := gate (score f w b i)

/-- A gate is positive. -/
theorem gates_pos (f : Fin 8192 → Fin 512 → ℝ) (w : Fin 512 → ℝ) (b : ℝ) (i : Fin 8192) : 0 < gates f w b i := by
  unfold gates gate; positivity

variable {ι : Type} [Fintype ι] (q : ι → Fin 8) (g p : ι → ℝ)

/-- A sum over one group of `h` by the exponentials of the scores, shifted by `μ`. -/
def part (h : ι → ℝ) (μ : Fin 8 → ℝ) (s : Fin 8) : ℝ := ∑ i, if q i = s then h i * Real.exp (g i - μ s) else 0

/-- The softmax of a row's score within its group. -/
def soft (i : ι) : ℝ := Real.exp (g i) / part q g (fun _ => 1) 0 (q i)

/-- A row's weight. -/
def weight (i : ι) : ℝ := p i * soft q g i

/-- The sum of the weights. -/
def total : ℝ := ∑ i, weight q g p i

/-- The weighted mean of a column. -/
def mean (f : ι → ℝ) : ℝ := (∑ i, weight q g p i * f i) / total q g p

/-- The weighted mean of a column's square, less the square of its mean. -/
def var (f : ι → ℝ) : ℝ := (∑ i, weight q g p i * (f i * f i)) / total q g p - mean q g p f * mean q g p f

/-- The column normalised. -/
def normed (f : ι → ℝ) (i : ι) : ℝ := (f i - mean q g p f) / Real.sqrt (var q g p f)

/-- A shift of the scores leaves a factor. -/
theorem part_shift (h : ι → ℝ) (μ : Fin 8 → ℝ) (s : Fin 8) : part q g h μ s = Real.exp (-μ s) * part q g h 0 s := by
  unfold part
  rw [Finset.mul_sum]
  refine Finset.sum_congr rfl fun i _ => ?_
  split_ifs
  · rw [show g i - μ s = -μ s + (g i - (0 : Fin 8 → ℝ) s) by simp; ring, Real.exp_add]; ring
  · simp

/-- A change of the shift is a factor. -/
theorem part_move (h : ι → ℝ) (μ ν : Fin 8 → ℝ) (s : Fin 8) : part q g h μ s * Real.exp (μ s - ν s) = part q g h ν s := by
  rw [part_shift q g h μ, part_shift q g h ν, mul_right_comm, ← Real.exp_add, show -μ s + (μ s - ν s) = -ν s by ring]

/-- A group's exponentials have a sum that is not negative. -/
theorem part_nonneg (μ : Fin 8 → ℝ) (s : Fin 8) : 0 ≤ part q g (fun _ => 1) μ s :=
  Finset.sum_nonneg fun i _ => by split_ifs <;> positivity

/-- The exponentials of a row's own group have a positive sum. -/
theorem part_pos (μ : Fin 8 → ℝ) (i : ι) : 0 < part q g (fun _ => 1) μ (q i) :=
  Finset.sum_pos' (fun j _ => by split_ifs <;> positivity) ⟨i, Finset.mem_univ i, by rw [if_pos rfl]; positivity⟩

/-- The softmax by any shift. -/
theorem soft_shift (μ : Fin 8 → ℝ) (i : ι) :
    soft q g i = Real.exp (g i - μ (q i)) / part q g (fun _ => 1) μ (q i) := by
  have h0 := (part_pos q g 0 i).ne'
  unfold soft
  rw [part_shift q g _ μ, sub_eq_add_neg, Real.exp_add]
  have := (Real.exp_pos (-μ (q i))).ne'
  field_simp

/-- Each group's sum by the reciprocal of its exponentials, over all groups: the sum over all rows.  A group without
rows contributes nothing. -/
theorem sum_parts (h : ι → ℝ) (μ : Fin 8 → ℝ) :
    (∑ s, part q g h μ s * (if 0 < part q g (fun _ => 1) μ s then 1 / part q g (fun _ => 1) μ s else 0))
      = ∑ i, h i * soft q g i := by
  have key : ∀ s, part q g h μ s * (if 0 < part q g (fun _ => 1) μ s then 1 / part q g (fun _ => 1) μ s else 0)
      = ∑ i, if q i = s then h i * soft q g i else 0 := fun s => by
    unfold part
    rw [Finset.sum_mul]
    refine Finset.sum_congr rfl fun i _ => ?_
    by_cases hi : q i = s
    · subst hi
      have hp := part_pos q g μ i
      rw [soft_shift q g μ i, if_pos rfl, if_pos rfl]
      unfold part at hp ⊢
      rw [if_pos hp]; ring
    · rw [if_neg hi, if_neg hi, zero_mul]
  simp only [key]
  rw [Finset.sum_comm]
  simp

variable (hp : ∀ i, 0 < p i)

include hp in
/-- A row's weight is positive. -/
theorem weight_pos (i : ι) : 0 < weight q g p i :=
  mul_pos (hp i) (div_pos (Real.exp_pos _) (part_pos q g 0 i))

include hp in
/-- The total weight is positive. -/
theorem total_pos [Nonempty ι] : 0 < total q g p :=
  Finset.sum_pos (fun i _ => weight_pos q g p hp i) Finset.univ_nonempty

include hp in
/-- The variance as the weighted sum of squared deviations, the weights first divided by their sum. -/
theorem var_eq [Nonempty ι] (f : ι → ℝ) :
    var q g p f = ∑ i, weight q g p i / total q g p * ((f i - mean q g p f) * (f i - mean q g p f)) := by
  have hT := (total_pos q g p hp).ne'
  have h1 : ∑ i, weight q g p i * f i = mean q g p f * total q g p := by unfold mean; field_simp
  have h2 : ∑ i, weight q g p i = total q g p := rfl
  have h3 : ∑ i, weight q g p i / total q g p * ((f i - mean q g p f) * (f i - mean q g p f))
      = ((∑ i, weight q g p i * (f i * f i)) - 2 * mean q g p f * (∑ i, weight q g p i * f i)
          + mean q g p f * mean q g p f * ∑ i, weight q g p i) / total q g p := by
    rw [Finset.mul_sum, Finset.mul_sum, ← Finset.sum_sub_distrib, ← Finset.sum_add_distrib, Finset.sum_div]
    refine Finset.sum_congr rfl fun i _ => ?_
    field_simp
    ring
  rw [h3, h1, h2]
  unfold var
  field_simp
  ring

include hp in
/-- A column with two different entries has a positive variance. -/
theorem var_pos [Nonempty ι] (f : ι → ℝ) {i j : ι} (hij : f i < f j) : 0 < var q g p f := by
  rw [var_eq q g p hp]
  have hT := total_pos q g p hp
  have hw : ∀ k, 0 < weight q g p k / total q g p := fun k => div_pos (weight_pos q g p hp k) hT
  refine Finset.sum_pos' (fun k _ => mul_nonneg (hw k).le (mul_self_nonneg _)) ?_
  by_cases h : f i = mean q g p f
  · exact ⟨j, Finset.mem_univ j, mul_pos (hw j) (mul_self_pos.mpr (by rw [← h]; exact sub_ne_zero.mpr hij.ne'))⟩
  · exact ⟨i, Finset.mem_univ i, mul_pos (hw i) (mul_self_pos.mpr (sub_ne_zero.mpr h))⟩

include hp in
/-- The weights divided by their sum: the mean they give is the same. -/
theorem mean_eq [Nonempty ι] (f : ι → ℝ) :
    (∑ i, f i * (weight q g p i / total q g p)) / (∑ i, weight q g p i / total q g p) = mean q g p f := by
  have hT := (total_pos q g p hp).ne'
  have h1 : ∑ i, weight q g p i / total q g p = 1 := by
    rw [← Finset.sum_div]; exact div_self hT
  rw [h1, div_one]
  unfold mean
  rw [Finset.sum_div]
  exact Finset.sum_congr rfl fun i _ => by ring

end Cert.Attn

end
-- ==== Proof.K.Step.lean ====
module

public import proofs.«01_k».proof.Proof.K.Payload
public import proofs.«01_k».proof.Proof.Math.Softmax

@[expose] public section

set_option maxRecDepth 16384

noncomputable section

/-! # One chunk, on the reals

When what is carried and the chunk's rows are real numbers, so is what is carried after the chunk: the old sums
are moved to the new maximum, and the chunk's own sums are added. -/

namespace Cert.KernelIdeal.Hand

open Cert.KernelIdeal Cert.KernelIdeal.Gen
open Idealize.ShloMosaic Idealize.SL.Sem
open Cert.Attn (coe_sum coe_ite gate)

/-- What is carried is these real numbers. -/
structure Carry.Holds (t : Carry Ideal) (M D Q : Fin 8 → ℝ) (P V : Fin 8 → Fin 512 → ℝ) : Prop where
  top : ∀ a, t.top (ix2 a 0) = (M a : EReal)
  den : ∀ a, t.den (ix2 a 0) = (D a : EReal)
  wsum : ∀ a, t.wsum (ix2 a 0) = (Q a : EReal)
  lin : ∀ a j, t.lin (ix2 a j) = (P a j : EReal)
  quad : ∀ a j, t.quad (ix2 a j) = (V a j : EReal)

section chunk

variable (z : FVec Ideal S2x1024 .f32) (s : Vec Ideal S1x1024 .i32) (m : FVec Ideal S8x1 .f32)
  (l g : Fin 1024 → ℝ) (q : Fin 1024 → Fin 8) (M : Fin 8 → ℝ)
  (hl : ∀ k, z (ix2 0 k) = (l k : EReal)) (hg : ∀ k, z (ix2 1 k) = (g k : EReal))
  (hq : ∀ k, s (ix2 0 k) = BitVec.ofNat 32 (q k).val) (hm : ∀ a, m (ix2 a 0) = (M a : EReal))

include hq in
/-- The membership of a row in a group is one or zero. -/
theorem member_real (a : Fin 8) (k : Fin 1024) : k0_pay11 (F := Ideal) s (ix2 a k) = ((if q k = a then 1 else 0 : ℝ) : EReal) := by
  rw [member_apply, hq, Attn.member_real]

include hg hq hm in
/-- The new maxima are real. -/
theorem top_real : ∃ M' : Fin 8 → ℝ, ∀ a, k0_pay12 m z s (ix2 a 0) = (M' a : EReal) := by
  obtain ⟨r, hr⟩ := Attn.word_low
  suffices h : ∀ a, ∃ u : ℝ, k0_pay12 m z s (ix2 a 0) = (u : EReal) from ⟨fun a => (h a).choose, fun a => (h a).choose_spec⟩
  intro a
  obtain ⟨f, hf⟩ := Attn.fold_max_real Finset.univ (Finset.univ_nonempty (α := Fin 1024)) (fun k => if q k = a then g k else r)
  refine ⟨max (M a) f, ?_⟩
  rw [top_apply, hm, Attn.word_bot, EReal.coe_strictMono.monotone.map_max, ← hf]
  refine congrArg (max _) (congrArg (fun F => Finset.fold max ⊥ F Finset.univ) (funext fun k => ?_))
  rw [hq, hg, hr, Attn.select_group, coe_ite]

variable (M' : Fin 8 → ℝ) (hM : ∀ a, k0_pay12 m z s (ix2 a 0) = (M' a : EReal))

include hm hM in
/-- The factor on the old sums is the exponential of the change of shift. -/
theorem shrink_real (a : Fin 8) : k0_pay13 m z s (ix2 a 0) = (Real.exp (M a - M' a) : EReal) := by
  rw [shrink_apply, hm, hM, ← EReal.coe_sub, Ideal.exp_coe]

include hg hq hM in
/-- A row's exponential, shifted by its own group's maximum. -/
theorem expo_real (k : Fin 1024) : k0_pay14 m z s (ix2 0 k) = (Real.exp (g k - M' (q k)) : EReal) := by
  have h : ∑ x, k0_pay11 (F := Ideal) s (ix2 x k) * k0_pay12 m z s (ix2 x 0) = (M' (q k) : EReal) := by
    simp_rw [member_real s q hq, hM, ← EReal.coe_mul]
    rw [← coe_sum]
    simp
  rw [expo_apply, h, hg, ← EReal.coe_sub, Ideal.exp_coe]

include hl hg hq hM in
/-- A row's gated exponential, in its own group and zero elsewhere. -/
theorem gated_real (a : Fin 8) (k : Fin 1024) :
    k0_pay15 m z s (ix2 a k) = ((if q k = a then gate (l k) * Real.exp (g k - M' a) else 0 : ℝ) : EReal) := by
  rw [gated_apply, member_real s q hq, expo_real z s m g q hg hq M' hM, hl, Ideal.logistic_coe, ← EReal.coe_mul, ← EReal.coe_mul]
  refine congrArg _ ?_
  split_ifs with h
  · rw [one_mul, h]; rfl
  · rw [zero_mul]

include hl hg hq hm hM in
/-- An old sum and the chunk's own, the latter by any real factor of a row. -/
theorem sum_real (v : Fin 8 → ℝ) (h : Fin 1024 → ℝ) (a : Fin 8) :
    (v a : EReal) * k0_pay13 m z s (ix2 a 0) + ∑ k, k0_pay15 m z s (ix2 a k) * (h k : EReal)
      = ((v a * Real.exp (M a - M' a) + Attn.part q g (fun k => gate (l k) * h k) M' a : ℝ) : EReal) := by
  simp_rw [shrink_real z s m M hm M' hM, gated_real z s m l g q hl hg hq M' hM, ← EReal.coe_mul]
  rw [← coe_sum, ← EReal.coe_add]
  refine congrArg _ (congrArg _ (Finset.sum_congr rfl fun k _ => ?_))
  split_ifs
  · ring
  · ring

include hg hq hm hM in
/-- The new sum of the exponentials. -/
theorem den_real (d : FVec Ideal S8x1 .f32) (D : Fin 8 → ℝ) (hd : ∀ a, d (ix2 a 0) = (D a : EReal)) (a : Fin 8) :
    k0_pay16 m d z s (ix2 a 0) = ((D a * Real.exp (M a - M' a) + Attn.part q g (fun _ => 1) M' a : ℝ) : EReal) := by
  rw [den_apply, hd, shrink_real z s m M hm M' hM]
  simp_rw [member_real s q hq, expo_real z s m g q hg hq M' hM, ← EReal.coe_mul]
  rw [← coe_sum, ← EReal.coe_add]
  refine congrArg _ (congrArg _ (Finset.sum_congr rfl fun k _ => ?_))
  split_ifs with h
  · rw [h]
  · ring

end chunk

/-- The chunk's step, on the reals. -/
theorem step_real (w : FVec Ideal S2x512 .bf16) (b : FVec Ideal S2x1 .f32) (x : Vec Ideal S1024x512 .f32) (s : Vec Ideal S1x1024 .i32)
    (t : Carry Ideal) (M D Q : Fin 8 → ℝ) (P V : Fin 8 → Fin 512 → ℝ) (ht : t.Holds M D Q P V)
    (f : Fin 1024 → Fin 512 → ℝ) (l g : Fin 1024 → ℝ) (q : Fin 1024 → Fin 8)
    (hf : ∀ k j, x (ix2 k j) = (f k j : EReal)) (hl : ∀ k, k0_pay9 w b x (ix2 0 k) = (l k : EReal))
    (hg : ∀ k, k0_pay9 w b x (ix2 1 k) = (g k : EReal)) (hq : ∀ k, s (ix2 0 k) = BitVec.ofNat 32 (q k).val) :
    ∃ M', (t.step w b x s).Holds M'
      (fun a => D a * Real.exp (M a - M' a) + Attn.part q g (fun _ => 1) M' a)
      (fun a => Q a * Real.exp (M a - M' a) + Attn.part q g (fun k => gate (l k)) M' a)
      (fun a j => P a j * Real.exp (M a - M' a) + Attn.part q g (fun k => gate (l k) * f k j) M' a)
      (fun a j => V a j * Real.exp (M a - M' a) + Attn.part q g (fun k => gate (l k) * (f k j * f k j)) M' a) := by
  obtain ⟨M', hM⟩ := top_real (k0_pay9 w b x) s t.top g q M hg hq ht.top
  have key := sum_real (k0_pay9 w b x) s t.top l g q M hl hg hq ht.top M' hM
  refine ⟨M', hM, den_real _ s t.top g q M hg hq ht.top M' hM t.den D ht.den, fun a => ?_, fun a j => ?_, fun a j => ?_⟩
  · have h := key Q (fun _ => 1) a
    simp only [EReal.coe_one, mul_one] at h
    show k0_pay17 _ _ _ _ _ = _
    rw [wsum_apply, ht.wsum, h]
  · show k0_pay19 _ _ _ _ _ _ = _
    rw [lin_apply, ht.lin, ← key (fun a => P a j) (fun k => f k j) a]
    simp_rw [hf]
  · show k0_pay20 _ _ _ _ _ _ = _
    rw [quad_apply, ht.quad, ← key (fun a => V a j) (fun k => f k j * f k j) a]
    simp_rw [hf, EReal.coe_mul]

end Cert.KernelIdeal.Hand

end
-- ==== Proof.K.Fold.lean ====
module

public import proofs.«01_k».proof.Proof.K.Step
public import proofs.«01_k».proof.Proof.K.Out

@[expose] public section

set_option maxRecDepth 16384

noncomputable section

/-! # Eight chunks, on the reals

What is carried after the last chunk are the sums over all rows. -/

namespace Cert.KernelIdeal.Hand

open Cert.KernelIdeal Cert.KernelIdeal.Gen
open Idealize.ShloMosaic Idealize.SL.Sem
open Cert.Attn (score gates)

/-- A sum over the rows, chunk by chunk. -/
theorem sum_chunks (G : Fin 8192 → ℝ) : ∑ c ∈ Finset.range 8, ∑ k, G (rowAt c k) = ∑ i, G i := by
  rw [Finset.sum_range (fun c => ∑ k, G (rowAt c k)), ← Fintype.sum_prod_type' (fun (c : Fin 8) (k : Fin 1024) => G (rowAt c.val k))]
  refine Fintype.sum_equiv (finProdFinEquiv (m := 8) (n := 1024) : Fin 8 × Fin 1024 ≃ Fin 8192) _ _ fun p => congrArg G (Fin.ext ?_)
  show (p.1.val * 1024 + p.2.val) % 8192 = p.2.val + 1024 * p.1.val
  have := p.1.isLt
  have := p.2.isLt
  omega

section sums

variable (q : Fin 8192 → Fin 8) (g : Fin 8192 → ℝ)

/-- A group's sum over the first `n` chunks. -/
def acc (n : ℕ) (h : Fin 8192 → ℝ) (μ : Fin 8 → ℝ) (a : Fin 8) : ℝ :=
  ∑ c ∈ Finset.range n, Attn.part (fun k => q (rowAt c k)) (fun k => g (rowAt c k)) (fun k => h (rowAt c k)) μ a

/-- The sum moved to a new shift, and the next chunk's. -/
theorem acc_succ (n : ℕ) (h : Fin 8192 → ℝ) (μ ν : Fin 8 → ℝ) (a : Fin 8) :
    acc q g n h μ a * Real.exp (μ a - ν a)
      + Attn.part (fun k => q (rowAt n k)) (fun k => g (rowAt n k)) (fun k => h (rowAt n k)) ν a = acc q g (n + 1) h ν a := by
  unfold acc
  rw [Finset.sum_range_succ, Finset.sum_mul]
  simp_rw [Attn.part_move]

/-- All chunks together are all rows. -/
theorem acc_all (h : Fin 8192 → ℝ) (μ : Fin 8 → ℝ) (a : Fin 8) : acc q g 8 h μ a = Attn.part q g h μ a :=
  sum_chunks fun i => if q i = a then h i * Real.exp (g i - μ a) else 0

end sums

/-- The arrays hold these real numbers and these group numbers. -/
structure Reals (X : Vec Ideal S8192x512 .f32) (s : Vec Ideal S1x8192 .i32) (w : Vec Ideal S2x512 .f32) (b : Vec Ideal S2x1 .f32)
    (f : Fin 8192 → Fin 512 → ℝ) (q : Fin 8192 → Fin 8) (wl wg : Fin 512 → ℝ) (bl bg : ℝ) : Prop where
  rows : ∀ i j, X (ix2 i j) = (f i j : EReal)
  ids : ∀ i, s (ix2 0 i) = BitVec.ofNat 32 (q i).val
  wl : ∀ d, w (ix2 0 d) = (wl d : EReal)
  wg : ∀ d, w (ix2 1 d) = (wg d : EReal)
  bl : b (ix2 0 0) = (bl : EReal)
  bg : b (ix2 1 0) = (bg : EReal)

variable {X : Vec Ideal S8192x512 .f32} {s : Vec Ideal S1x8192 .i32} {w : Vec Ideal S2x512 .f32} {b : Vec Ideal S2x1 .f32}
  {f : Fin 8192 → Fin 512 → ℝ} {q : Fin 8192 → Fin 8} {wl wg : Fin 512 → ℝ} {bl bg : ℝ}

/-- A chunk's score by real weights is the row's score. -/
theorem score_real (hX : ∀ i j, X (ix2 i j) = (f i j : EReal)) (a : Fin 2) (v : Fin 512 → ℝ) (u : ℝ)
    (hw : ∀ d, w (ix2 a d) = (v d : EReal)) (hb : b (ix2 a 0) = (u : EReal)) (n : ℕ) (k : Fin 1024) :
    k0_pay9 (k0_pay1 w) (k0_pay2 b) (chunkX X n) (ix2 a k) = (score f v u (rowAt n k) : EReal) := by
  have hx : ∀ d, chunkX X n (ix2 k d) = (f (rowAt n k) d : EReal) := fun d => hX (rowAt n k) d
  rw [score_apply, biases_apply, hb]
  simp_rw [weights_apply, hw, hx, ← EReal.coe_mul]
  rw [← Attn.coe_sum, ← EReal.coe_add]
  refine congrArg _ (congrArg (· + u) (Finset.sum_congr rfl fun d _ => mul_comm _ _))

/-- After any number of chunks, the sums of those chunks are carried, by some shift. -/
theorem upto_real (h : Reals X s w b f q wl wg bl bg) (n : ℕ) :
    ∃ μ, (Carry.upto (k0_pay1 w) (k0_pay2 b) (chunkX X) (chunkS s) n).Holds μ
      (acc q (score f wg bg) n (fun _ => 1) μ) (acc q (score f wg bg) n (gates f wl bl) μ)
      (fun a j => acc q (score f wg bg) n (fun i => gates f wl bl i * f i j) μ a)
      (fun a j => acc q (score f wg bg) n (fun i => gates f wl bl i * (f i j * f i j)) μ a) := by
  induction n with
  | zero =>
    obtain ⟨r, hr⟩ := Attn.word_low
    refine ⟨fun _ => r, fun a => ?_, fun a => ?_, fun a => ?_, fun a j => ?_, fun a j => ?_⟩
    · exact (start_apply a 0).1.trans hr
    · exact (start_apply a 0).2.1
    · exact (start_apply a 0).2.2.1
    · exact (start_apply a j).2.2.2.1
    · exact (start_apply a j).2.2.2.2
  | succ n ih =>
    obtain ⟨μ, hμ⟩ := ih
    obtain ⟨ν, hν⟩ := step_real (k0_pay1 w) (k0_pay2 b) (chunkX X n) (chunkS s n) _ _ _ _ _ _ hμ
      (fun k j => f (rowAt n k) j) (fun k => score f wl bl (rowAt n k)) (fun k => score f wg bg (rowAt n k)) (fun k => q (rowAt n k))
      (fun k j => h.rows (rowAt n k) j) (score_real h.rows 0 wl bl h.wl h.bl n) (score_real h.rows 1 wg bg h.wg h.bg n)
      (fun k => h.ids (rowAt n k))
    exact ⟨ν, hν.top, fun a => (hν.den a).trans (congrArg _ (acc_succ q _ n (fun _ => 1) μ ν a)),
      fun a => (hν.wsum a).trans (congrArg _ (acc_succ q _ n (gates f wl bl) μ ν a)),
      fun a j => (hν.lin a j).trans (congrArg _ (acc_succ q _ n (fun i => gates f wl bl i * f i j) μ ν a)),
      fun a j => (hν.quad a j).trans (congrArg _ (acc_succ q _ n (fun i => gates f wl bl i * (f i j * f i j)) μ ν a))⟩

/-- What is carried at the end are the sums over all rows. -/
theorem final_real (h : Reals X s w b f q wl wg bl bg) :
    ∃ μ, (finalCarry X s w b).Holds μ
      (Attn.part q (score f wg bg) (fun _ => 1) μ) (Attn.part q (score f wg bg) (gates f wl bl) μ)
      (fun a j => Attn.part q (score f wg bg) (fun i => gates f wl bl i * f i j) μ a)
      (fun a j => Attn.part q (score f wg bg) (fun i => gates f wl bl i * (f i j * f i j)) μ a) := by
  obtain ⟨μ, hμ⟩ := upto_real h 8
  simp only [show ∀ h, acc q (score f wg bg) 8 h μ = Attn.part q (score f wg bg) h μ from fun h => funext (acc_all q _ h μ)] at hμ
  exact ⟨μ, hμ⟩

end Cert.KernelIdeal.Hand

end
-- ==== Proof.K.Final.lean ====
module

public import proofs.«01_k».proof.Proof.K.Fold

@[expose] public section

set_option maxRecDepth 16384

noncomputable section

/-! # The kernel's result, on the reals

From the sums over all rows come the total weight, the mean of a column and its variance, so an entry of the
result is the entry less the mean, over the root of the variance. -/

namespace Cert.KernelIdeal.Hand

open Cert.KernelIdeal Cert.KernelIdeal.Gen
open Idealize.ShloMosaic Idealize.SL.Sem
open Cert.Attn (score gates)

section columns

variable (t : Carry Ideal) (q : Fin 8192 → Fin 8) (g p : Fin 8192 → ℝ) (f : Fin 8192 → Fin 512 → ℝ) (M μ : Fin 8 → ℝ)
  (ht : t.Holds M (Attn.part q g (fun _ => 1) μ) (Attn.part q g p μ)
    (fun a j => Attn.part q g (fun i => p i * f i j) μ a) (fun a j => Attn.part q g (fun i => p i * (f i j * f i j)) μ a))

include ht in
/-- The reciprocals are real. -/
theorem inv_real (a : Fin 8) :
    t.inv (ix2 a 0) = ((if 0 < Attn.part q g (fun _ => 1) μ a then 1 / Attn.part q g (fun _ => 1) μ a else 0 : ℝ) : EReal) := by
  rw [inv_apply, ht.den, Attn.coe_ite]
  refine if_ctx_congr EReal.coe_pos (fun h => ?_) (fun _ => EReal.coe_zero.symm)
  rw [← Attn.div_real _ _ h.ne', EReal.coe_one]

include ht in
/-- A group's sums by the reciprocals make the sum over the rows by their weights. -/
theorem sums_real (h : Fin 8192 → ℝ) :
    ∑ a, (Attn.part q g h μ a : EReal) * t.inv (ix2 a 0) = ((∑ i, h i * Attn.soft q g i : ℝ) : EReal) := by
  simp_rw [inv_real t q g p f M μ ht, ← EReal.coe_mul]
  rw [← Attn.coe_sum, Attn.sum_parts]

include ht in
/-- The total weight is real. -/
theorem total_real : k0_pay120 t.total = (Attn.total q g p : EReal) := by
  rw [total_apply]
  simp_rw [ht.wsum, Finset.sum_const, Finset.card_univ, Fintype.card_unique, one_smul]
  exact sums_real t q g p f M μ ht p

variable (hp : ∀ i, 0 < p i)

include ht hp in
/-- A quotient of a weighted sum by the total. -/
theorem ratio_real (h : Fin 8192 → ℝ) :
    Ideal.div (∑ a, (Attn.part q g (fun i => p i * h i) μ a : EReal) * t.inv (ix2 a 0)) (k0_pay120 t.total)
      = (((∑ i, Attn.weight q g p i * h i) / Attn.total q g p : ℝ) : EReal) := by
  rw [sums_real t q g p f M μ ht, total_real t q g p f M μ ht, Attn.div_real _ _ (Attn.total_pos q g p hp).ne']
  refine congrArg _ (congrArg (· / _) (Finset.sum_congr rfl fun i _ => ?_))
  unfold Attn.weight
  ring

include ht hp in
/-- A column's mean is real. -/
theorem mean_real (j : Fin 512) :
    k0_pay121 t.lin t.inv t.total (ix2 0 j) = (Attn.mean q g p (fun i => f i j) : EReal) := by
  rw [mean_apply]
  simp_rw [ht.lin]
  exact ratio_real t q g p f M μ ht hp fun i => f i j

include ht hp in
/-- The factor of a column that is not constant is the reciprocal of the root of its variance. -/
theorem scale_real (j : Fin 512) {i i' : Fin 8192} (hij : f i j < f i' j) :
    t.scale (ix2 0 j) = ((√(Attn.var q g p (fun i => f i j)))⁻¹ : ℝ) := by
  have hv := Attn.var_pos q g p hp (fun i => f i j) hij
  show k0_pay122 _ _ _ _ _ = _
  rw [scale_apply, mean_real t q g p f M μ ht hp]
  simp_rw [ht.quad]
  rw [ratio_real t q g p f M μ ht hp fun i => f i j * f i j, ← EReal.coe_mul, ← EReal.coe_sub]
  show Ideal.rsqrt ((Attn.var q g p (fun i => f i j) : ℝ) : EReal) = _
  rw [Ideal.rsqrt_coe, if_neg hv.not_gt, if_neg hv.ne']

end columns

variable {X : Vec Ideal S8192x512 .f32} {s : Vec Ideal S1x8192 .i32} {w : Vec Ideal S2x512 .f32} {b : Vec Ideal S2x1 .f32}
  {f : Fin 8192 → Fin 512 → ℝ} {q : Fin 8192 → Fin 8} {wl wg : Fin 512 → ℝ} {bl bg : ℝ}

/-- An entry of the kernel's result. -/
theorem result_real (h : Reals X s w b f q wl wg bl bg) (i : Fin 8192) (j : Fin 512) {k k' : Fin 8192} (hk : f k j < f k' j) :
    resultOf X s w b (ix2 i j) = (Attn.normed q (score f wg bg) (gates f wl bl) (fun i => f i j) i : EReal) := by
  obtain ⟨μ, ht⟩ := final_real h
  have hp : ∀ i, 0 < gates f wl bl i := fun i => Attn.gates_pos f wl bl i
  have hi : rowAt (i.val / 1024) ⟨i.val % 1024, Nat.mod_lt _ (by decide)⟩ = i := Fin.ext (by
    show (i.val / 1024 * 1024 + i.val % 1024) % 8192 = i.val
    have := i.isLt
    omega)
  have hx : chunkX X (i.val / 1024) (ix2 ⟨i.val % 1024, Nat.mod_lt _ (by decide)⟩ j) = (f i j : EReal) :=
    (congrArg (fun r => X (ix2 r j)) hi).trans (h.rows i j)
  have hs : (finalCarry X s w b).shift (ix2 0 j) = _ * (finalCarry X s w b).scale (ix2 0 j) :=
    shift_apply (finalCarry X s w b).lin (finalCarry X s w b).quad (finalCarry X s w b).inv (finalCarry X s w b).total j
  refine (entry_apply (chunkX X (i.val / 1024)) (finalCarry X s w b).scale (finalCarry X s w b).shift ⟨i.val % 1024, Nat.mod_lt _ (by decide)⟩ j).trans ?_
  rw [hx, hs, mean_real _ q _ _ f _ μ ht hp, scale_real _ q _ _ f _ μ ht hp j hk, ← EReal.coe_mul, ← EReal.coe_mul, ← EReal.coe_sub]
  refine congrArg _ ?_
  unfold Attn.normed
  rw [div_eq_mul_inv, sub_mul]

end Cert.KernelIdeal.Hand

end
-- ==== Proof.K.Entry.lean ====
module

public import proofs.«01_k».proof.Proof.K.Frame
public import proofs.«01_k».proof.Proof.K.Final
public import Idealize.ShloMosaic.Lib.StableHlo.Run

@[expose] public section

set_option maxRecDepth 16384

noncomputable section

/-! # What the body is handed

The three staged arrays are whole arrays, which the host operations before the kernel compute from the
arguments: the group numbers reshaped, the two weight columns stacked and turned, the two biases stacked. -/

namespace Cert.KernelIdeal.Hand

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (c : Dev nD)

/-- The staged group numbers are the whole array. -/
theorem staged_ids : stagedS m c = V m c main_v4 := by
  funext y
  refine congrArg (V m c main_v4) (idx2_ext _ _ ?_ ?_)
  · show win0_0.index t0_0 0 * 1 + 1 * (y 0).val = (y 0).val
    rw [show win0_0.index t0_0 0 = 0 by decide +kernel]; omega
  · show win0_0.index t0_0 1 * 8192 + 1 * (y 1).val = (y 1).val
    rw [show win0_0.index t0_0 1 = 0 by decide +kernel]; omega

/-- The staged weights are the whole array. -/
theorem staged_weights : stagedW m c = V m c main_v1 := by
  funext y
  refine congrArg (V m c main_v1) (idx2_ext _ _ ?_ ?_)
  · show win0_1.index t0_0 0 * 2 + 1 * (y 0).val = (y 0).val
    rw [show win0_1.index t0_0 0 = 0 by decide +kernel]; omega
  · show win0_1.index t0_0 1 * 512 + 1 * (y 1).val = (y 1).val
    rw [show win0_1.index t0_0 1 = 0 by decide +kernel]; omega

/-- The staged biases are the whole array. -/
theorem staged_biases : stagedB m c = V m c main_v3 := by
  funext y
  refine congrArg (V m c main_v3) (idx2_ext _ _ ?_ ?_)
  · show win0_2.index t0_0 0 * 2 + 1 * (y 0).val = (y 0).val
    rw [show win0_2.index t0_0 0 = 0 by decide +kernel]; omega
  · show win0_2.index t0_0 1 * 1 + 1 * (y 1).val = (y 1).val
    rw [show win0_2.index t0_0 1 = 0 by decide +kernel]; omega

/-- The group numbers handed over. -/
theorem ids_eq : stagedS m c = shapeCast S1x8192 (m (c.tc.loc main_arg1)) shapeCasts_S8192_S1x8192 := by
  rw [staged_ids]
  unfold V hostOps0
  after_results_simp <;> rfl

/-- The weights handed over. -/
theorem weights_eq : stagedW m c = transpose S2x512 [1, 0]
    (concatenate S512x2 1 [⟨S512x1, m (c.tc.loc main_arg2)⟩, ⟨S512x1, m (c.tc.loc main_arg4)⟩] concatenates_S512x1_S512x1_S512x2_d1)
    transposes_S512x2_S2x512_1_0 := by
  rw [staged_weights]
  unfold V hostOps0
  after_results_simp <;> rfl

/-- The biases handed over. -/
theorem biases_eq : stagedB m c = broadcastInDim S2x1 ![0] bcast_S2_S2x1_0
    (concatenate S2 0 [⟨S1, m (c.tc.loc main_arg3)⟩, ⟨S1, m (c.tc.loc main_arg5)⟩] concatenates_S1_S1_S2_d0) := by
  rw [staged_biases]
  unfold V hostOps0
  after_results_simp <;> rfl

/-- Turned and stacked columns at an index. -/
theorem stacked_columns (a b : FVec F S512x1 .f32) (d : Fin 512) :
    transpose S2x512 [1, 0] (concatenate S512x2 1 [⟨S512x1, a⟩, ⟨S512x1, b⟩] concatenates_S512x1_S512x1_S512x2_d1)
        transposes_S512x2_S2x512_1_0 (ix2 0 d) = a (ix2 d 0)
      ∧ transpose S2x512 [1, 0] (concatenate S512x2 1 [⟨S512x1, a⟩, ⟨S512x1, b⟩] concatenates_S512x1_S512x1_S512x2_d1)
        transposes_S512x2_S2x512_1_0 (ix2 1 d) = b (ix2 d 0) := by
  constructor <;> pointwise []

/-- Stacked entries at an index. -/
theorem stacked_entries (a b : FVec F S1 .f32) :
    broadcastInDim S2x1 ![0] bcast_S2_S2x1_0 (concatenate S2 0 [⟨S1, a⟩, ⟨S1, b⟩] concatenates_S1_S1_S2_d0) (ix2 0 0) = a (ix1 0)
      ∧ broadcastInDim S2x1 ![0] bcast_S2_S2x1_0 (concatenate S2 0 [⟨S1, a⟩, ⟨S1, b⟩] concatenates_S1_S1_S2_d0) (ix2 1 0) = b (ix1 0) := by
  constructor <;> pointwise []

/-- A row of numbers at an index. -/
theorem row_apply (s : Vec F S8192 .i32) (i : Fin 8192) : shapeCast S1x8192 s shapeCasts_S8192_S1x8192 (ix2 0 i) = s (ix1 i) := by
  pointwise []

end Cert.KernelIdeal.Hand

end
-- ==== Proof.Ref.Stages.lean ====
module

public import proofs.«01_k».proof.Proof.Gen.ReferenceIdeal.Run

@[expose] public section

set_option maxRecDepth 16384

noncomputable section

/-! # The reference, stage by stage

The reference's result is one long term of its arguments.  Here its stages have names. -/

namespace Cert.ReferenceIdeal.Hand

open Cert.ReferenceIdeal Cert.ReferenceIdeal.Gen
open Idealize.ShloMosaic Idealize.ShloMosaic.TcCoe Idealize.SL.Sem

variable {F : FTy → Type} [FloatOps F]

/-- Scores: rows by a weight column, and a bias. -/
def linear (X : FVec F S8192x512 .f32) (W : FVec F S512x1 .f32) (B : FVec F S1 .f32) : FVec F S8192x1 .f32 :=
  addf (Host.dotGeneral dot_S8192x512_S512x1_S8192x1_1_0_0_1_n_n none X W)
    (broadcastInDim S8192x1 ![0, 1] bcast_S1x1_S8192x1_0_1 (broadcastInDim S1x1 ![1] bcast_S1_S1x1_1 B))

/-- The logistic function of a column. -/
def sigmoid (z : FVec F S8192x1 .f32) : FVec F S8192x1 .f32 :=
  Host.divf (broadcastInDim S8192x1 ![] bcast_S_S8192x1 (constant S_ .f32 0x3F800000#32))
    (addf (broadcastInDim S8192x1 ![] bcast_S_S8192x1 (constant S_ .f32 0x3F800000#32)) (Host.exp (Host.negf z)))

/-- A column as a list. -/
def listed (z : FVec F S8192x1 .f32) : FVec F S8192 .f32 := shapeCast S8192 z shapeCasts_S8192x1_S8192

/-- The maximum of a group's scores. -/
def tops (s : IVec S8192 32) (g : FVec F S8192 .f32) : FVec F S8 .f32 :=
  Host.reduce FloatOps.maximumf
    (select (cmpi .eq (broadcastInDim S8x8192 ![0, 1] bcast_S1x8192_S8x8192_0_1 (broadcastInDim S1x8192 ![1] bcast_S8192_S1x8192_1 s))
        (broadcastInDim S8x8192 ![0, 1] bcast_S8x1_S8x8192_0_1 (broadcastInDim S8x1 ![0] bcast_S8_S8x1_0 (iotaInDim S8 32 0))))
      (broadcastInDim S8x8192 ![0, 1] bcast_S1x8192_S8x8192_0_1 (broadcastInDim S1x8192 ![1] bcast_S8192_S1x8192_1 g))
      (broadcastInDim S8x8192 ![] bcast_S_S8x8192 (id (constant S_ .f32 0xFF800000#32))))
    (constant S_ .f32 0xFF800000#32) reducesTo_S8x8192_S8_d1 h_S_

/-- The group numbers as indices: negative ones counted from the end. -/
def wrapped (s : IVec S8192 32) : IVec S8192x1 32 :=
  broadcastInDim S8192x1 ![0] bcast_S8192_S8192x1_0
    (select (cmpi .slt s (broadcastInDim S8192 ![] bcast_S_S8192 (constantI S_ 32 0#32)))
      (addi s (broadcastInDim S8192 ![] bcast_S_S8192 (constantI S_ 32 8#32))) s)

/-- Each row's entry of a table by group. -/
def lookup (s : IVec S8192 32) (v : FVec F S8 .f32) : FVec F S8192 .f32 :=
  Host.gather gather_S8_S8192x1_S8192_n_0_n_n_0_1_1 v (wrapped s)

/-- The exponentials of the scores, shifted by the maxima of their groups. -/
def expos (s : IVec S8192 32) (g : FVec F S8192 .f32) : FVec F S8192 .f32 := Host.exp (subf g (lookup s (tops s g)))

/-- The sums of a list by group. -/
def sums (s : IVec S8192 32) (e : FVec F S8192 .f32) : FVec F S8 .f32 :=
  Host.scatterAdd scatter_S8_S8192x1_S8192_n_0_0_1 (broadcastInDim S8 ![] bcast_S_S8 (constant S_ .f32 0x00000000#32))
    (broadcastInDim S8192x1 ![0] bcast_S8192_S8192x1_0 s) e

/-- The softmax within groups. -/
def softs (s : IVec S8192 32) (g : FVec F S8192 .f32) : FVec F S8192 .f32 :=
  Host.divf (expos s g) (lookup s (sums s (expos s g)))

/-- The weights, not yet divided by their sum. -/
def raw (p : FVec F S8192x1 .f32) (v : FVec F S8192 .f32) : FVec F S8192x1 .f32 :=
  mulf p (broadcastInDim S8192x1 ![0] bcast_S8192_S8192x1_0 v)

/-- The sum of a column. -/
def sumAll (w : FVec F S8192x1 .f32) : FVec F S_ .f32 :=
  Host.reduceAdd w (constant S_ .f32 0x00000000#32) reducesTo_S8192x1_S_d0_1 h_S_

/-- The weights divided by the sum of their absolute values. -/
def shares (r : FVec F S8192x1 .f32) : FVec F S8192x1 .f32 :=
  Host.divf r (broadcastInDim S8192x1 ![] bcast_S_S8192x1 (sumAll (Host.absf r)))

/-- The sums of the columns of an array. -/
def sumRows (Y : FVec F S8192x512 .f32) : FVec F S1x512 .f32 :=
  broadcastInDim S1x512 ![1] bcast_S512_S1x512_1 (Host.reduceAdd Y (constant S_ .f32 0x00000000#32) reducesTo_S8192x512_S512_d0 h_S_)

/-- A column spread over all columns. -/
def spread (w : FVec F S8192x1 .f32) : FVec F S8192x512 .f32 := broadcastInDim S8192x512 ![0, 1] bcast_S8192x1_S8192x512_0_1 w

/-- The weighted means of the columns. -/
def means (X : FVec F S8192x512 .f32) (w : FVec F S8192x1 .f32) : FVec F S1x512 .f32 :=
  Host.divf (sumRows (mulf X (spread w))) (broadcastInDim S1x512 ![] bcast_S_S1x512 (sumAll w))

/-- The entries less the means. -/
def centred (X : FVec F S8192x512 .f32) (w : FVec F S8192x1 .f32) : FVec F S8192x512 .f32 :=
  subf X (broadcastInDim S8192x512 ![0, 1] bcast_S1x512_S8192x512_0_1 (means X w))

/-- The columns normalised. -/
def normalised (X : FVec F S8192x512 .f32) (w : FVec F S8192x1 .f32) : FVec F S8192x512 .f32 :=
  Host.divf (centred X w) (broadcastInDim S8192x512 ![0, 1] bcast_S1x512_S8192x512_0_1
    (Host.sqrt (sumRows (mulf (spread w) (mulf (centred X w) (centred X w))))))

/-- The reference of its arguments. -/
def whole (X : FVec F S8192x512 .f32) (s : IVec S8192 32) (Wl : FVec F S512x1 .f32) (Bl : FVec F S1 .f32) (Wg : FVec F S512x1 .f32)
    (Bg : FVec F S1 .f32) : FVec F S8192x512 .f32 :=
  normalised X (shares (raw (sigmoid (linear X Wl Bl)) (softs s (listed (linear X Wg Bg)))))

/-- The result of the reference's run is the stages'. -/
theorem result_eq (m : (ℓ : Loc nD τ sig) → Buf (Elt F) ℓ) (c : Dev nD) :
    Value.res_main_v68 m c = whole (m (c.tc.loc main_arg0)) (m (c.tc.loc main_arg1)) (m (c.tc.loc main_arg2)) (m (c.tc.loc main_arg3))
      (m (c.tc.loc main_arg4)) (m (c.tc.loc main_arg5)) := rfl

end Cert.ReferenceIdeal.Hand

end
-- ==== Proof.Ref.Values.lean ====
module

public import proofs.«01_k».proof.Proof.Ref.Stages
public import Idealize.ShloMosaic.Lib.Pointwise
public import Idealize.ShloMosaic.Lib.Routing.OpsSet
public import Idealize.ShloMosaic.Lib.Routing.OpsPair

@[expose] public section

set_option maxRecDepth 16384

noncomputable section

/-! # The reference's stages, entry by entry -/

namespace Cert.ReferenceIdeal.Hand

open Cert.ReferenceIdeal Cert.ReferenceIdeal.Gen
open Idealize.ShloMosaic Idealize.ShloMosaic.TcCoe Idealize.SL.Sem

variable (X : FVec Ideal S8192x512 .f32) (s : IVec S8192 32) (W : FVec Ideal S512x1 .f32) (B : FVec Ideal S1 .f32)
  (z w r p : FVec Ideal S8192x1 .f32) (g v e : FVec Ideal S8192 .f32) (Y : FVec Ideal S8192x512 .f32)

/-- A row's score. -/
theorem linear_apply (i : Fin 8192) : linear X W B (ix2 i 0) = ∑ d, X (ix2 i d) * W (ix2 d 0) + B (ix1 0) := by
  pointwise [linear]

/-- A row's gate. -/
theorem sigmoid_apply (i : Fin 8192) : sigmoid z (ix2 i 0) = Ideal.div 1 (1 + Ideal.exp (-z (ix2 i 0))) := by
  pointwise [sigmoid]

/-- A column read as a list. -/
theorem listed_apply (i : Fin 8192) : listed z (ix1 i) = z (ix2 i 0) := by
  pointwise [listed]

/-- The maximum of a group. -/
theorem tops_apply (a : Fin 8) : tops s g (ix1 a) = Finset.fold max (Ideal.ofBits FTy.f32 0xFF800000#32)
    (fun x => Scalar.select (IntOp.cmpi .eq (s (ix1 x)) (BitVec.ofNat 32 ↑a)) (g (ix1 x)) (Ideal.ofBits FTy.f32 0xFF800000#32)) Finset.univ := by
  pointwise [tops, id]

/-- A row's index into a table by group. -/
theorem wrapped_apply (i : Fin 8192) :
    wrapped s (ix2 i 0) = Scalar.select (IntOp.cmpi .slt (s (ix1 i)) 0#32) (IntOp.addi (s (ix1 i)) 8#32) (s (ix1 i)) := by
  pointwise [wrapped]

/-- A row's shifted exponential. -/
theorem expos_apply (i : Fin 8192) : expos s g (ix1 i) = Ideal.exp (g (ix1 i) - lookup s (tops s g) (ix1 i)) := by
  pointwise [expos]

/-- A row's softmax. -/
theorem softs_apply (i : Fin 8192) : softs s g (ix1 i) = Ideal.div (expos s g (ix1 i)) (lookup s (sums s (expos s g)) (ix1 i)) := by
  pointwise [softs]

/-- A row's weight. -/
theorem raw_apply (i : Fin 8192) : raw p v (ix2 i 0) = p (ix2 i 0) * v (ix1 i) := by
  pointwise [raw]

/-- A sum of a column. -/
theorem sumAll_apply : sumAll w ix0 = ∑ i, w (ix2 i 0) := by
  have h : sumAll w ix0 = ∑ i, ∑ k : Fin 1, w (ix2 i k) := by pointwise [sumAll]
  rw [h]
  exact Finset.sum_congr rfl fun i _ => Fin.sum_univ_one _

/-- A row's share. -/
theorem shares_apply (i : Fin 8192) : shares r (ix2 i 0) = Ideal.div (r (ix2 i 0)) (sumAll (Host.absf r) ix0) := by
  pointwise [shares]

/-- An absolute value. -/
theorem abs_apply (i : Fin 8192) : Host.absf r (ix2 i 0) = max (r (ix2 i 0)) (-r (ix2 i 0)) := rfl

/-- A sum down a column. -/
theorem sumRows_apply (j : Fin 512) : sumRows Y (ix2 0 j) = ∑ i, Y (ix2 i j) := by
  pointwise [sumRows]

/-- A column spread. -/
theorem spread_apply (i : Fin 8192) (j : Fin 512) : spread w (ix2 i j) = w (ix2 i 0) := by
  pointwise [spread]

/-- A column's mean. -/
theorem means_apply (j : Fin 512) : means X w (ix2 0 j) = Ideal.div (∑ i, X (ix2 i j) * w (ix2 i 0)) (∑ i, w (ix2 i 0)) := by
  have h : means X w (ix2 0 j) = Ideal.div (sumRows (mulf X (spread w)) (ix2 0 j)) (sumAll w ix0) := by pointwise [means]
  rw [h, sumRows_apply, sumAll_apply]
  refine congrArg (Ideal.div · _) (Finset.sum_congr rfl fun i _ => ?_)
  exact congrArg _ (spread_apply w i j)

/-- An entry less its column's mean. -/
theorem centred_apply (i : Fin 8192) (j : Fin 512) : centred X w (ix2 i j) = X (ix2 i j) - means X w (ix2 0 j) := by
  pointwise [centred]

/-- An entry of the result. -/
theorem normalised_apply (i : Fin 8192) (j : Fin 512) :
    normalised X w (ix2 i j) = Ideal.div (centred X w (ix2 i j))
      (Ideal.sqrt (∑ k, w (ix2 k 0) * (centred X w (ix2 k j) * centred X w (ix2 k j)))) := by
  have h : normalised X w (ix2 i j) = Ideal.div (centred X w (ix2 i j))
      (Ideal.sqrt (sumRows (mulf (spread w) (mulf (centred X w) (centred X w))) (ix2 0 j))) := by pointwise [normalised]
  rw [h, sumRows_apply]
  refine congrArg (fun u => Ideal.div _ (Ideal.sqrt u)) (Finset.sum_congr rfl fun k _ => ?_)
  exact congrArg (· * _) (spread_apply w k j)

/-- A row whose group number is in range finds its group's entry. -/
theorem lookup_apply (t : FVec Ideal S8 .f32) (i : Fin 8192) (a : Fin 8) (ha : s (ix1 i) = BitVec.ofNat 32 a.val) :
    lookup s t (ix1 i) = t (ix1 a) := by
  have hw : ∀ a : Fin 8, Scalar.select (IntOp.cmpi .slt (BitVec.ofNat 32 a.val) 0#32) (IntOp.addi (BitVec.ofNat 32 a.val) 8#32)
      (BitVec.ofNat 32 a.val) = BitVec.ofNat 32 a.val := by decide
  exact Routing.gather_take1 gather_S8_S8192x1_S8192_n_0_n_n_0_1_1 rfl rfl rfl rfl t (wrapped s) i a
    ((wrapped_apply s i).trans (by rw [ha]; exact hw a)) (by decide)

/-- A row adds to the group its number names. -/
theorem lands (idx : IVec S8192x1 32) (i : Fin 8192) (a : Fin 8) :
    scatter_S8_S8192x1_S8192_n_0_0_1.resultIdx? (ix1 i) idx = some (ix1 a) ↔ (idx (ix2 i 0)).toInt = (a.val : Int) := by
  have hs : scatter_S8_S8192x1_S8192_n_0_0_1.start (ix1 i) idx 0 = (idx (ix2 i 0)).toInt := by
    unfold ScatterDims.start
    rw [dif_pos (by decide)]
    refine congrArg (fun k => (idx k).toInt) (funext (Fin.forall_fin_two.mpr ⟨?_, ?_⟩)) <;> rfl
  have hw : scatter_S8_S8192x1_S8192_n_0_0_1.window (ix1 i) 0 = 0 := by
    unfold ScatterDims.window
    rw [dif_neg (by decide)]
  refine (Routing.resultIdx?_eq_some _ _ _ _).trans ⟨fun h => ?_, fun h b => ?_⟩
  · have h0 := h 0
    rw [hs, hw, Nat.cast_zero, add_zero] at h0
    exact h0
  · obtain rfl : b = 0 := Subsingleton.elim _ _
    rw [hs, hw, Nat.cast_zero, add_zero]
    exact h

/-- The indices of a list are its positions. -/
def positions : S8192.Idx ≃ Fin 8192 where
  toFun j := j 0
  invFun i := ix1 i
  left_inv j := funext fun a => by rw [Subsingleton.elim a 0]; rfl
  right_inv _ := rfl

/-- A group's sum. -/
theorem sums_apply (a : Fin 8) : sums s e (ix1 a) = ∑ i, if (s (ix1 i)).toInt = (a.val : Int) then e (ix1 i) else 0 := by
  have h0 : broadcastInDim S8 ![] bcast_S_S8 (constant (F := Ideal) S_ .f32 0x00000000#32) (ix1 a) = 0 := by pointwise []
  have hc : ∀ i, broadcastInDim S8192x1 ![0] bcast_S8192_S8192x1_0 s (ix2 i 0) = s (ix1 i) := fun i => by pointwise []
  show broadcastInDim S8 ![] bcast_S_S8 (constant (F := Ideal) S_ .f32 0x00000000#32) (ix1 a)
    + ∑ j ∈ Finset.univ.filter (fun j => scatter_S8_S8192x1_S8192_n_0_0_1.resultIdx? j (broadcastInDim S8192x1 ![0] bcast_S8192_S8192x1_0 s) = some (ix1 a)), e j = _
  rw [h0, zero_add, Finset.sum_filter, ← Equiv.sum_comp positions.symm]
  refine Finset.sum_congr rfl fun i _ => ?_
  show (if scatter_S8_S8192x1_S8192_n_0_0_1.resultIdx? (ix1 i) _ = some (ix1 a) then e (ix1 i) else 0) = _
  simp only [lands, hc]

end Cert.ReferenceIdeal.Hand

end
-- ==== Proof.Ref.Real.lean ====
module

public import proofs.«01_k».proof.Proof.Ref.Values
public import proofs.«01_k».proof.Proof.Math.Coe
public import proofs.«01_k».proof.Proof.Math.Softmax

@[expose] public section

set_option maxRecDepth 16384

noncomputable section

/-! # The reference's result, on the reals -/

namespace Cert.ReferenceIdeal.Hand

open Cert.ReferenceIdeal Cert.ReferenceIdeal.Gen
open Idealize.ShloMosaic Idealize.ShloMosaic.TcCoe Idealize.SL.Sem
open Cert.Attn (score gate gates coe_sum coe_ite div_real)

/-- Scores of real rows by real weights. -/
theorem linear_real (X : FVec Ideal S8192x512 .f32) (W : FVec Ideal S512x1 .f32) (B : FVec Ideal S1 .f32)
    (f : Fin 8192 → Fin 512 → ℝ) (w : Fin 512 → ℝ) (b : ℝ) (hX : ∀ i j, X (ix2 i j) = (f i j : EReal))
    (hW : ∀ d, W (ix2 d 0) = (w d : EReal)) (hB : B (ix1 0) = (b : EReal)) (i : Fin 8192) :
    linear X W B (ix2 i 0) = (score f w b i : EReal) := by
  rw [linear_apply, hB]
  simp_rw [hX, hW, ← EReal.coe_mul]
  rw [← coe_sum, ← EReal.coe_add]
  rfl

/-- Gates of real scores. -/
theorem sigmoid_real (z : FVec Ideal S8192x1 .f32) (l : Fin 8192 → ℝ) (hz : ∀ i, z (ix2 i 0) = (l i : EReal)) (i : Fin 8192) :
    sigmoid z (ix2 i 0) = (gate (l i) : EReal) := by
  have h : 1 + Real.exp (-l i) ≠ 0 := by positivity
  rw [sigmoid_apply, hz, ← EReal.coe_neg, Ideal.exp_coe, ← EReal.coe_one, ← EReal.coe_add, div_real _ _ h, one_div]
  rfl

section softmax

variable (s : IVec S8192 32) (g : FVec Ideal S8192 .f32) (q : Fin 8192 → Fin 8) (u : Fin 8192 → ℝ)
  (hs : ∀ i, s (ix1 i) = BitVec.ofNat 32 (q i).val) (hg : ∀ i, g (ix1 i) = (u i : EReal))

include hs hg in
/-- The maximum of a group that has a row is real. -/
theorem tops_real (i : Fin 8192) : ∃ M : ℝ, tops s g (ix1 (q i)) = (M : EReal) := by
  have h : tops s g (ix1 (q i)) = Finset.fold max ⊥ (fun k => if q k = q i then (u k : EReal) else ⊥) Finset.univ := by
    rw [tops_apply, Attn.word_bot]
    refine congrArg (fun F => Finset.fold max ⊥ F Finset.univ) (funext fun k => ?_)
    rw [hs, hg, Attn.select_group]
  rw [h]
  refine Attn.fold_max_some _ _ (fun k _ => ?_) (Finset.mem_univ i) ?_
  · split_ifs
    · exact EReal.coe_lt_top _
    · exact bot_lt_top
  · rw [if_pos rfl]; exact EReal.bot_lt_coe _

/-- Group numbers read as integers. -/
theorem group_int : ∀ a b : Fin 8, (BitVec.ofNat 32 a.val).toInt = (b.val : Int) ↔ a = b := by decide

include hs hg in
/-- The softmax within groups is real. -/
theorem softs_real (i : Fin 8192) : softs s g (ix1 i) = (Attn.soft q u i : EReal) := by
  have hM : ∀ i, tops s g (ix1 (q i)) = ((tops s g (ix1 (q i))).toReal : EReal) := fun i => by
    obtain ⟨M, h⟩ := tops_real s g q u hs hg i
    rw [h]; rfl
  generalize hμ : (fun a : Fin 8 => (tops s g (ix1 a)).toReal) = μ
  have hM' : ∀ i, tops s g (ix1 (q i)) = (μ (q i) : EReal) := fun i => by rw [← hμ]; exact hM i
  have he : ∀ i, expos s g (ix1 i) = (Real.exp (u i - μ (q i)) : EReal) := fun i => by
    rw [expos_apply, lookup_apply s _ i (q i) (hs i), hg, hM', ← EReal.coe_sub, Ideal.exp_coe]
  have hd : ∀ a, sums s (expos s g) (ix1 a) = (Attn.part q u (fun _ => 1) μ a : EReal) := fun a => by
    rw [sums_apply]
    simp_rw [hs, group_int, he]
    unfold Attn.part
    rw [coe_sum]
    refine Finset.sum_congr rfl fun k _ => ?_
    split_ifs with h
    · rw [one_mul, h]
    · rfl
  rw [softs_apply, lookup_apply s _ i (q i) (hs i), he, hd, div_real _ _ (Attn.part_pos q u μ i).ne', ← Attn.soft_shift]

end softmax

section columns

variable (q : Fin 8192 → Fin 8) (g p : Fin 8192 → ℝ) (hp : ∀ i, 0 < p i)

include hp in
/-- The shares of real positive weights. -/
theorem shares_real (r : FVec Ideal S8192x1 .f32) (hr : ∀ i, r (ix2 i 0) = (Attn.weight q g p i : EReal)) (i : Fin 8192) :
    shares r (ix2 i 0) = (Attn.weight q g p i / Attn.total q g p : ℝ) := by
  have ha : ∀ i, Host.absf r (ix2 i 0) = (Attn.weight q g p i : EReal) := fun i => by
    have h := (Attn.weight_pos q g p hp i).le
    rw [abs_apply, hr, ← EReal.coe_neg, ← EReal.coe_strictMono.monotone.map_max, max_eq_left (by linarith)]
  rw [shares_apply, sumAll_apply, hr]
  simp_rw [ha]
  rw [← coe_sum]
  exact div_real _ _ (Attn.total_pos q g p hp).ne'

variable (X : FVec Ideal S8192x512 .f32) (w : FVec Ideal S8192x1 .f32) (f : Fin 8192 → Fin 512 → ℝ)
  (hX : ∀ i j, X (ix2 i j) = (f i j : EReal)) (hw : ∀ i, w (ix2 i 0) = (Attn.weight q g p i / Attn.total q g p : ℝ))

include hp hX hw in
/-- A column's mean is real. -/
theorem means_real (j : Fin 512) : means X w (ix2 0 j) = (Attn.mean q g p (fun i => f i j) : EReal) := by
  have h1 : 0 < ∑ i, Attn.weight q g p i / Attn.total q g p :=
    Finset.sum_pos (fun i _ => div_pos (Attn.weight_pos q g p hp i) (Attn.total_pos q g p hp)) Finset.univ_nonempty
  rw [means_apply]
  simp_rw [hX, hw, ← EReal.coe_mul]
  rw [← coe_sum, ← coe_sum, div_real _ _ h1.ne', Attn.mean_eq q g p hp]

include hp hX hw in
/-- An entry of the result is the entry normalised. -/
theorem normalised_real (i : Fin 8192) (j : Fin 512) {k k' : Fin 8192} (hk : f k j < f k' j) :
    normalised X w (ix2 i j) = (Attn.normed q g p (fun i => f i j) i : EReal) := by
  have hc : ∀ i, centred X w (ix2 i j) = ((f i j - Attn.mean q g p (fun i => f i j) : ℝ) : EReal) := fun i => by
    rw [centred_apply, hX, means_real q g p hp X w f hX hw, ← EReal.coe_sub]
  have hv := Attn.var_pos q g p hp (fun i => f i j) hk
  rw [normalised_apply]
  simp_rw [hc, hw, ← EReal.coe_mul]
  rw [← coe_sum, ← Attn.var_eq q g p hp fun i => f i j, Ideal.sqrt_coe, if_neg hv.not_gt, div_real _ _ (Real.sqrt_pos.mpr hv).ne']
  rfl

end columns

/-- An entry of the reference's result. -/
theorem whole_real (X : FVec Ideal S8192x512 .f32) (s : IVec S8192 32) (Wl : FVec Ideal S512x1 .f32) (Bl : FVec Ideal S1 .f32)
    (Wg : FVec Ideal S512x1 .f32) (Bg : FVec Ideal S1 .f32) (f : Fin 8192 → Fin 512 → ℝ) (q : Fin 8192 → Fin 8) (wl wg : Fin 512 → ℝ) (bl bg : ℝ)
    (hX : ∀ i j, X (ix2 i j) = (f i j : EReal)) (hs : ∀ i, s (ix1 i) = BitVec.ofNat 32 (q i).val)
    (hWl : ∀ d, Wl (ix2 d 0) = (wl d : EReal)) (hBl : Bl (ix1 0) = (bl : EReal)) (hWg : ∀ d, Wg (ix2 d 0) = (wg d : EReal))
    (hBg : Bg (ix1 0) = (bg : EReal)) (i : Fin 8192) (j : Fin 512) {k k' : Fin 8192} (hk : f k j < f k' j) :
    whole X s Wl Bl Wg Bg (ix2 i j) = (Attn.normed q (score f wg bg) (gates f wl bl) (fun i => f i j) i : EReal) := by
  have hp := Attn.gates_pos f wl bl
  refine normalised_real q _ _ hp X _ f hX (shares_real q _ _ hp _ fun i => ?_) i j hk
  rw [raw_apply, sigmoid_real _ _ (linear_real X Wl Bl f wl bl hX hWl hBl),
    softs_real s _ q (score f wg bg) hs (fun i => (listed_apply _ i).trans (linear_real X Wg Bg f wg bg hX hWg hBg i)), ← EReal.coe_mul]
  rfl

end Cert.ReferenceIdeal.Hand

end
-- ==== Proof.Equation.lean ====
module

public import proofs.«01_k».proof.Defs
public import proofs.«01_k».proof.Proof.Pre
public import proofs.«01_k».proof.Proof.K.Entry
public import proofs.«01_k».proof.Proof.Ref.Real
public import proofs.«01_k».proof.Proof.Gen.ReferenceIdeal.Run

@[expose] public section

set_option maxRecDepth 16384

noncomputable section

/-! # The equation

On inputs the precondition admits, the kernel and the reference leave the same array: both are the
normalized array of the reals. -/

namespace Cert.Proof

open Idealize.ShloMosaic Idealize.SL.Sem

section arrays

open Cert.KernelIdeal Cert.KernelIdeal.Gen Cert.KernelIdeal.Hand

variable (X : FVec Ideal S8192x512 .f32) (s : IVec S8192 32) (Wl : FVec Ideal S512x1 .f32) (Bl : FVec Ideal S1 .f32)
  (Wg : FVec Ideal S512x1 .f32) (Bg : FVec Ideal S1 .f32)

/-- What the kernel leaves of six argument arrays: the body run on the arrays the host operations make of them. -/
def kernelOf : Vec Ideal S8192x512 .f32 :=
  resultOf X (shapeCast S1x8192 s shapeCasts_S8192_S1x8192)
    (transpose S2x512 [1, 0] (concatenate S512x2 1 [⟨S512x1, Wl⟩, ⟨S512x1, Wg⟩] concatenates_S512x1_S512x1_S512x2_d1)
      transposes_S512x2_S2x512_1_0)
    (broadcastInDim S2x1 ![0] bcast_S2_S2x1_0 (concatenate S2 0 [⟨S1, Bl⟩, ⟨S1, Bg⟩] concatenates_S1_S1_S2_d0))

/-- What the kernel leaves is that array of its arguments. -/
theorem outAt_eq (m : (ℓ : Loc nD τ sig) → Buf (Elt Ideal) ℓ) (c : Dev nD) :
    outAt m c = kernelOf (m (c.tc.loc main_arg0)) (m (c.tc.loc main_arg1)) (m (c.tc.loc main_arg2)) (m (c.tc.loc main_arg3))
      (m (c.tc.loc main_arg4)) (m (c.tc.loc main_arg5)) := by
  unfold outAt kernelOf
  rw [ids_eq, weights_eq, biases_eq, V_main_arg0]

/-- On inputs the precondition admits, the reference's array is the kernel's. -/
theorem results_equal (h : Cert.Pre_inputs_ok.fn (F := Ideal) X s Wl Bl Wg Bg = fun _ => 1#1) :
    Cert.ReferenceIdeal.Hand.whole (F := Ideal) X s Wl Bl Wg Bg = kernelOf X s Wl Bl Wg Bg := by
  obtain ⟨hX, hs, hWl, hBl, hWg, hBg, hcol⟩ := Cert.Pre_inputs_ok.Hand.decoded X s Wl Bl Wg Bg h
  choose f hf using fun i j => hX (ix2 i j)
  choose q hq using fun i => hs (ix1 i)
  choose wl hwl using fun d => hWl (ix2 d 0)
  choose wg hwg using fun d => hWg (ix2 d 0)
  obtain ⟨bl, hbl⟩ := hBl (ix1 0)
  obtain ⟨bg, hbg⟩ := hBg (ix1 0)
  have real := Reals.mk (X := X) hf (fun i => (row_apply s i).trans (hq i)) (fun d => (stacked_columns Wl Wg d).1.trans (hwl d))
    (fun d => (stacked_columns Wl Wg d).2.trans (hwg d)) ((stacked_entries Bl Bg).1.trans hbl) ((stacked_entries Bl Bg).2.trans hbg)
  have entry : ∀ (i : Fin 8192) (j : Fin 512),
      Cert.ReferenceIdeal.Hand.whole (F := Ideal) X s Wl Bl Wg Bg (ix2 i j) = kernelOf X s Wl Bl Wg Bg (ix2 i j) := by
    intro i j
    obtain ⟨k, k', hk⟩ := hcol j
    rw [hf, hf, EReal.coe_lt_coe_iff] at hk
    exact (Cert.ReferenceIdeal.Hand.whole_real X s Wl Bl Wg Bg f q wl wg bl bg hf hq hwl hbl hwg hbg i j hk).trans
      (result_real real i j hk).symm
  funext y
  rw [eq_ix2 y]
  exact entry (y 0) (y 1)

end arrays

/-- From memories that agree on the arguments, both programs leave the same result. -/
theorem algebraic : Cert.algebraic_KernelIdeal_ReferenceIdeal_pre_inputs_ok := fun m g m' g' hpre hargs => by
  refine ⟨fun c => Cert.KernelIdeal.Hand.outAt m c, ?_, ?_⟩
  · exact (θ_run Cert.KernelIdeal.defs _ _).mono (fun r h c => ⟨h.2.2 c, h.1 c⟩) (Cert.KernelIdeal.Hand.run_value m g)
  · refine (θ_run Cert.ReferenceIdeal.defs _ _).mono (fun r h c => ⟨(h c).1.trans ?_, (h c).2⟩)
      (Cert.ReferenceIdeal.Value.run (F := Ideal) m' g')
    obtain ⟨h0, h1, h2, h3, h4, h5⟩ := hargs c
    rw [Cert.ReferenceIdeal.Hand.result_eq, h0, h1, h2, h3, h4, h5]
    exact (results_equal _ _ _ _ _ _ (hpre c)).trans (outAt_eq m c).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_inputs_ok
public import proofs.«01_k».proof.Proof.K.Same
public import proofs.«01_k».proof.Proof.RefFrame
public import proofs.«01_k».proof.Proof.Equation

@[expose] public section

noncomputable section

namespace Cert.Proof

open Idealize.ShloMosaic Idealize.SL.Sem

/-- Everything the certificate claims: the frames, the kernel kept as it was, and the equation. -/
theorem claim : Cert.Claim :=
  ⟨Cert.Kernel.Gen.facts, Cert.KernelIdeal.Gen.facts, Cert.ReferenceIdeal.Gen.facts, Cert.Pre_inputs_ok.Gen.facts,
    frame_kernel, frame_ideal, frame_ideal_pre, frame_reference, frame_reference_pre, trivial, algebraic⟩

end Cert.Proof

end
